-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "beta1" .f32 0x3F666666#32 ((9 / 10 : ℝ) : EReal)
  ∧ IdealRules.named_const.Statement Cert.KernelIdeal.κ "g_to_m" .f32 0x3BCCCCCD#32 ((1 / 160 : ℝ) : EReal)
  ∧ IdealRules.named_const.Statement Cert.KernelIdeal.κ "beta2" .f32 0x3F733333#32 ((19 / 20 : ℝ) : EReal)
  ∧ IdealRules.named_const.Statement Cert.KernelIdeal.κ "gg_to_v" .f32 0x394CCCCD#32 ((1 / 5120 : ℝ) : EReal)
  ∧ IdealRules.named_const.Statement Cert.KernelIdeal.κ "inv_bc2" .f32 0x3FC78729#32 ((104857600000000000000000000 / 67267626542454041806644399 : ℝ) : EReal)
  ∧ IdealRules.named_const.Statement Cert.KernelIdeal.κ "lr_over_bc1" .f32 0x3C3A8418#32 ((1000000000000000000 / 87842334540943071199 : ℝ) : EReal)
  ∧ IdealRules.named_const.Statement Cert.KernelIdeal.κ "eps" .f32 0x322BCC77#32 ((1 / 100000000 : ℝ) : EReal)
  ∧ IdealRules.named_const.Statement Cert.KernelIdeal.κ "lr_wd" .f32 0x3A83126F#32 ((1 / 1000 : ℝ) : EReal)
  ∧ IdealRules.named_const.Statement Cert.KernelIdeal.κ "inv448" .f32 0x3B124925#32 ((1 / 448 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x2432x7168 : Shape := ⟨3, ![16, 2432, 7168]⟩
abbrev S16x2432x56 : Shape := ⟨3, ![16, 2432, 56]⟩
abbrev S2432x7168 : Shape := ⟨2, ![2432, 7168]⟩
abbrev S2432x56 : Shape := ⟨2, ![2432, 56]⟩
abbrev S_ : Shape := ⟨0, ![]⟩

class Facts : Prop where
  natLt_8_32 : 8 < 32
  bcast_S_S16x2432x7168 : S_.BroadcastsInDim S16x2432x7168 (![] : Fin 0 → Fin S16x2432x7168.rank)
  reducesTo_S16x2432x7168_S_d0_1_2 : S16x2432x7168.ReducesTo [0, 1, 2] S_
  h_S_ : 0 < S_.numel
  bcast_S_S16x2432x56 : S_.BroadcastsInDim S16x2432x56 (![] : Fin 0 → Fin S16x2432x56.rank)
  reducesTo_S16x2432x56_S_d0_1_2 : S16x2432x56.ReducesTo [0, 1, 2] S_
  bcast_S_S2432x7168 : S_.BroadcastsInDim S2432x7168 (![] : Fin 0 → Fin S2432x7168.rank)
  reducesTo_S2432x7168_S_d0_1 : S2432x7168.ReducesTo [0, 1] S_
  bcast_S_S2432x56 : S_.BroadcastsInDim S2432x56 (![] : Fin 0 → Fin S2432x56.rank)
  reducesTo_S2432x56_S_d0_1 : S2432x56.ReducesTo [0, 1] S_

variable [Facts]

def fn_part2 {F : FTy → Type} [FloatOps F] (main_arg5 : FVec F S2432x7168 .bf16) (main_v29 : IVec S_ 1) (main_v32 : IVec S2432x56 1) : IVec S_ 1 :=
  let main_c_13 : IVec S_ 1 := constantI S_ 1 1#1
  let main_v33 : IVec S_ 1 := (fun x v => Host.reduce IntOp.andi x v reducesTo_S2432x56_S_d0_1 h_S_) main_v32 main_c_13
  let main_v34 : IVec S_ 1 := andi main_v29 main_v33
  let main_cst_14 : FVec F S_ .bf16 := constant S_ .bf16 0x0080#16
  let main_v35 : FVec F S2432x7168 .bf16 := broadcastInDim S2432x7168 ![] bcast_S_S2432x7168 main_cst_14
  let main_v36 : IVec S2432x7168 1 := cmpf .oge main_arg5 main_v35
  let main_c_15 : IVec S_ 1 := constantI S_ 1 1#1
  let main_v37 : IVec S_ 1 := (fun x v => Host.reduce IntOp.andi x v reducesTo_S2432x7168_S_d0_1 h_S_) main_v36 main_c_15
  let main_v38 : IVec S_ 1 := andi main_v34 main_v37
  let main_cst_16 : FVec F S_ .bf16 := constant S_ .bf16 0x7F80#16
  let main_v39 : FVec F S2432x7168 .bf16 := broadcastInDim S2432x7168 ![] bcast_S_S2432x7168 main_cst_16
  let main_v40 : IVec S2432x7168 1 := cmpf .olt main_arg5 main_v39
  let main_c_17 : IVec S_ 1 := constantI S_ 1 1#1
  let main_v41 : IVec S_ 1 := (fun x v => Host.reduce IntOp.andi x v reducesTo_S2432x7168_S_d0_1 h_S_) main_v40 main_c_17
  let main_v42 : IVec S_ 1 := andi main_v38 main_v41
  main_v42

def fn_part1 {F : FTy → Type} [FloatOps F] (main_arg2 : FVec F S2432x7168 .f32) (main_arg3 : IVec S2432x7168 8) (main_arg4 : FVec F S2432x56 .f32) (main_arg5 : FVec F S2432x7168 .bf16) (main_v11 : IVec S_ 1) (main_v15 : IVec S16x2432x56 1) : IVec S_ 1 :=
  let main_c_7 : IVec S_ 1 := constantI S_ 1 1#1
  let main_v16 : IVec S_ 1 := (fun x v => Host.reduce IntOp.andi x v reducesTo_S16x2432x56_S_d0_1_2 h_S_) main_v15 main_c_7
  let main_v17 : IVec S_ 1 := andi main_v11 main_v16
  let main_v18 : FVec F S2432x7168 .f32 := Host.absf main_arg2
  let main_cst : FVec F S_ .f32 := constant S_ .f32 0x5F800000#32
  let main_v19 : FVec F S2432x7168 .f32 := broadcastInDim S2432x7168 ![] bcast_S_S2432x7168 main_cst
  let main_v20 : IVec S2432x7168 1 := cmpf .ole main_v18 main_v19
  let main_c_8 : IVec S_ 1 := constantI S_ 1 1#1
  let main_v21 : IVec S_ 1 := (fun x v => Host.reduce IntOp.andi x v reducesTo_S2432x7168_S_d0_1 h_S_) main_v20 main_c_8
  let main_v22 : IVec S_ 1 := andi main_v17 main_v21
  let main_v23 : IVec S2432x7168 32 := (extsi 32 · natLt_8_32) main_arg3
  let main_c_9 : IVec S_ 32 := constantI S_ 32 127#32
  let main_v24 : IVec S2432x7168 32 := broadcastInDim S2432x7168 ![] bcast_S_S2432x7168 main_c_9
  let main_v25 : IVec S2432x7168 32 := andi main_v23 main_v24
  let main_c_10 : IVec S_ 32 := constantI S_ 32 127#32
  let main_v26 : IVec S2432x7168 32 := broadcastInDim S2432x7168 ![] bcast_S_S2432x7168 main_c_10
  let main_v27 : IVec S2432x7168 1 := cmpi .slt main_v25 main_v26
  let main_c_11 : IVec S_ 1 := constantI S_ 1 1#1
  let main_v28 : IVec S_ 1 := (fun x v => Host.reduce IntOp.andi x v reducesTo_S2432x7168_S_d0_1 h_S_) main_v27 main_c_11
  let main_v29 : IVec S_ 1 := andi main_v22 main_v28
  let main_v30 : FVec F S2432x56 .f32 := Host.absf main_arg4
  let main_cst_12 : FVec F S_ .f32 := constant S_ .f32 0x5F800000#32
  let main_v31 : FVec F S2432x56 .f32 := broadcastInDim S2432x56 ![] bcast_S_S2432x56 main_cst_12
  let main_v32 : IVec S2432x56 1 := cmpf .ole main_v30 main_v31
  fn_part2 (F := F) main_arg5 main_v29 main_v32

def fn {F : FTy → Type} [FloatOps F] (main_arg0 : IVec S16x2432x7168 8) (main_arg1 : IVec S16x2432x56 32) (main_arg2 : FVec F S2432x7168 .f32) (main_arg3 : IVec S2432x7168 8) (main_arg4 : FVec F S2432x56 .f32) (main_arg5 : FVec F S2432x7168 .bf16) : IVec S_ 1 :=
  let main_v0 : IVec S16x2432x7168 32 := (extsi 32 · natLt_8_32) main_arg0
  let main_c : IVec S_ 32 := constantI S_ 32 127#32
  let main_v1 : IVec S16x2432x7168 32 := broadcastInDim S16x2432x7168 ![] bcast_S_S16x2432x7168 main_c
  let main_v2 : IVec S16x2432x7168 32 := andi main_v0 main_v1
  let main_c_0 : IVec S_ 32 := constantI S_ 32 124#32
  let main_v3 : IVec S16x2432x7168 32 := broadcastInDim S16x2432x7168 ![] bcast_S_S16x2432x7168 main_c_0
  let main_v4 : IVec S16x2432x7168 1 := cmpi .slt main_v2 main_v3
  let main_c_1 : IVec S_ 1 := constantI S_ 1 1#1
  let main_v5 : IVec S_ 1 := (fun x v => Host.reduce IntOp.andi x v reducesTo_S16x2432x7168_S_d0_1_2 h_S_) main_v4 main_c_1
  let main_c_2 : IVec S_ 32 := constantI S_ 32 65535#32
  let main_v6 : IVec S16x2432x56 32 := broadcastInDim S16x2432x56 ![] bcast_S_S16x2432x56 main_c_2
  let main_v7 : IVec S16x2432x56 32 := andi main_arg1 main_v6
  let main_c_3 : IVec S_ 32 := constantI S_ 32 0#32
  let main_v8 : IVec S16x2432x56 32 := broadcastInDim S16x2432x56 ![] bcast_S_S16x2432x56 main_c_3
  let main_v9 : IVec S16x2432x56 1 := cmpi .eq main_v7 main_v8
  let main_c_4 : IVec S_ 1 := constantI S_ 1 1#1
  let main_v10 : IVec S_ 1 := (fun x v => Host.reduce IntOp.andi x v reducesTo_S16x2432x56_S_d0_1_2 h_S_) main_v9 main_c_4
  let main_v11 : IVec S_ 1 := andi main_v5 main_v10
  let main_c_5 : IVec S_ 32 := constantI S_ 32 2147483647#32
  let main_v12 : IVec S16x2432x56 32 := broadcastInDim S16x2432x56 ![] bcast_S_S16x2432x56 main_c_5
  let main_v13 : IVec S16x2432x56 32 := andi main_arg1 main_v12
  let main_c_6 : IVec S_ 32 := constantI S_ 32 1602224128#32
  let main_v14 : IVec S16x2432x56 32 := broadcastInDim S16x2432x56 ![] bcast_S_S16x2432x56 main_c_6
  let main_v15 : IVec S16x2432x56 1 := cmpi .sle main_v13 main_v14
  fn_part1 (F := F) main_arg2 main_arg3 main_arg4 main_arg5 main_v11 main_v15
-- ==== Kernel.lean ====
abbrev S16x2432x7168 : Shape := ⟨3, ![16, 2432, 7168]⟩
abbrev S16x2432x56 : Shape := ⟨3, ![16, 2432, 56]⟩
abbrev S2432x7168 : Shape := ⟨2, ![2432, 7168]⟩
abbrev S2432x56 : Shape := ⟨2, ![2432, 56]⟩
abbrev S16x56x2432 : Shape := ⟨3, ![16, 56, 2432]⟩
abbrev S56x2432 : Shape := ⟨2, ![56, 2432]⟩
abbrev S16x128x1024 : Shape := ⟨3, ![16, 128, 1024]⟩
abbrev S16x8x128 : Shape := ⟨3, ![16, 8, 128]⟩
abbrev S128x1024 : Shape := ⟨2, ![128, 1024]⟩
abbrev S8x128 : Shape := ⟨2, ![8, 128]⟩
abbrev S4x8x512 : Shape := ⟨3, ![4, 8, 512]⟩
abbrev S128x128 : Shape := ⟨2, ![128, 128]⟩
abbrev S1x8x128 : Shape := ⟨3, ![1, 8, 128]⟩
abbrev S128x8 : Shape := ⟨2, ![128, 8]⟩
abbrev S8x512 : Shape := ⟨2, ![8, 512]⟩
abbrev S1x1x512 : Shape := ⟨3, ![1, 1, 512]⟩
abbrev S1x512 : Shape := ⟨2, ![1, 512]⟩
abbrev S16x512 : Shape := ⟨2, ![16, 512]⟩
abbrev S64x512 : Shape := ⟨2, ![64, 512]⟩
abbrev S16x32x256 : Shape := ⟨3, ![16, 32, 256]⟩
abbrev S512x256 : Shape := ⟨2, ![512, 256]⟩
abbrev S64x256 : Shape := ⟨2, ![64, 256]⟩
abbrev S32x128 : Shape := ⟨2, ![32, 128]⟩
abbrev S32x1 : Shape := ⟨2, ![32, 1]⟩
abbrev S32 : Shape := ⟨1, ![32]⟩
abbrev S32x128x256 : Shape := ⟨3, ![32, 128, 256]⟩
abbrev S32x128x1 : Shape := ⟨3, ![32, 128, 1]⟩
abbrev S8x128x256 : Shape := ⟨3, ![8, 128, 256]⟩
abbrev S8x128x1 : Shape := ⟨3, ![8, 128, 1]⟩

abbrev nBuf : Space → Nat
  | .hbm => 17
  | .vmem => 29
  | .smem => 0
  | _ => 0

abbrev bufTy : (tb : Table) → Fin (tcTables nBuf tb) → BufTy
  | .hbm, ⟨0, _⟩ => ⟨S16x2432x7168, .i8⟩
  | .hbm, ⟨1, _⟩ => ⟨S16x2432x56, .i32⟩
  | .hbm, ⟨2, _⟩ => ⟨S2432x7168, .f32⟩
  | .hbm, ⟨3, _⟩ => ⟨S2432x7168, .i8⟩
  | .hbm, ⟨4, _⟩ => ⟨S2432x56, .f32⟩
  | .hbm, ⟨5, _⟩ => ⟨S2432x7168, .bf16⟩
  | .hbm, ⟨6, _⟩ => ⟨S16x2432x7168, .fp8e5m2⟩
  | .hbm, ⟨7, _⟩ => ⟨S2432x7168, .fp8e4m3⟩
  | .hbm, ⟨8, _⟩ => ⟨S16x56x2432, .i32⟩
  | .hbm, ⟨9, _⟩ => ⟨S56x2432, .f32⟩
  | .hbm, ⟨10, _⟩ => ⟨S2432x7168, .f32⟩
  | .hbm, ⟨11, _⟩ => ⟨S2432x7168, .bf16⟩
  | .hbm, ⟨12, _⟩ => ⟨S2432x7168, .f32⟩
  | .hbm, ⟨13, _⟩ => ⟨S2432x7168, .fp8e4m3⟩
  | .hbm, ⟨14, _⟩ => ⟨S56x2432, .f32⟩
  | .hbm, ⟨15, _⟩ => ⟨S2432x7168, .fp8e4m3⟩
  | .hbm, ⟨16, _⟩ => ⟨S56x2432, .f32⟩
  | .local _ .vmem, ⟨0, _⟩ => ⟨S16x128x1024, .fp8e5m2⟩
  | .local _ .vmem, ⟨1, _⟩ => ⟨S16x128x1024, .fp8e5m2⟩
  | .local _ .vmem, ⟨2, _⟩ => ⟨S16x8x128, .i32⟩
  | .local _ .vmem, ⟨3, _⟩ => ⟨S16x8x128, .i32⟩
  | .local _ .vmem, ⟨4, _⟩ => ⟨S128x1024, .f32⟩
  | .local _ .vmem, ⟨5, _⟩ => ⟨S128x1024, .f32⟩
  | .local _ .vmem, ⟨6, _⟩ => ⟨S128x1024, .fp8e4m3⟩
  | .local _ .vmem, ⟨7, _⟩ => ⟨S128x1024, .fp8e4m3⟩
  | .local _ .vmem, ⟨8, _⟩ => ⟨S8x128, .f32⟩
  | .local _ .vmem, ⟨9, _⟩ => ⟨S8x128, .f32⟩
  | .local _ .vmem, ⟨10, _⟩ => ⟨S128x1024, .bf16⟩
  | .local _ .vmem, ⟨11, _⟩ => ⟨S128x1024, .bf16⟩
  | .local _ .vmem, ⟨12, _⟩ => ⟨S128x1024, .f32⟩
  | .local _ .vmem, ⟨13, _⟩ => ⟨S128x1024, .f32⟩
  | .local _ .vmem, ⟨14, _⟩ => ⟨S128x1024, .bf16⟩
  | .local _ .vmem, ⟨15, _⟩ => ⟨S128x1024, .bf16⟩
  | .local _ .vmem, ⟨16, _⟩ => ⟨S128x1024, .f32⟩
  | .local _ .vmem, ⟨17, _⟩ => ⟨S128x1024, .f32⟩
  | .local _ .vmem, ⟨18, _⟩ => ⟨S128x1024, .fp8e4m3⟩
  | .local _ .vmem, ⟨19, _⟩ => ⟨S128x1024, .fp8e4m3⟩
  | .local _ .vmem, ⟨20, _⟩ => ⟨S8x128, .f32⟩
  | .local _ .vmem, ⟨21, _⟩ => ⟨S8x128, .f32⟩
  | .local _ .vmem, ⟨22, _⟩ => ⟨S128x1024, .fp8e4m3⟩
  | .local _ .vmem, ⟨23, _⟩ => ⟨S128x1024, .fp8e4m3⟩
  | .local _ .vmem, ⟨24, _⟩ => ⟨S8x128, .f32⟩
  | .local _ .vmem, ⟨25, _⟩ => ⟨S8x128, .f32⟩
  | .local _ .vmem, ⟨26, _⟩ => ⟨S4x8x512, .i32⟩
  | .local _ .vmem, ⟨27, _⟩ => ⟨S128x128, .f32⟩
  | .local _ .vmem, ⟨28, _⟩ => ⟨S128x128, .f32⟩
  | _, _ => ⟨S16x2432x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![19, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S16x128x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "beta1" => some ((9 / 10 : ℝ) : EReal)
  | "beta2" => some ((19 / 20 : ℝ) : EReal)
  | "eps" => some ((1 / 100000000 : ℝ) : EReal)
  | "g_to_m" => some ((1 / 160 : ℝ) : EReal)
  | "gg_to_v" => some ((1 / 5120 : ℝ) : EReal)
  | "inv448" => some ((1 / 448 : ℝ) : EReal)
  | "inv_bc2" => some ((104857600000000000000000000 / 67267626542454041806644399 : ℝ) : EReal)
  | "lr_over_bc1" => some ((1000000000000000000 / 87842334540943071199 : ℝ) : EReal)
  | "lr_wd" => some ((1 / 1000 : ℝ) : EReal)
  | _ => none
-- ==== ReferenceIdeal.lean ====
abbrev S16x2432x7168 : Shape := ⟨3, ![16, 2432, 7168]⟩
abbrev S16x2432x56 : Shape := ⟨3, ![16, 2432, 56]⟩
abbrev S2432x7168 : Shape := ⟨2, ![2432, 7168]⟩
abbrev S2432x56 : Shape := ⟨2, ![2432, 56]⟩
abbrev S56x2432 : Shape := ⟨2, ![56, 2432]⟩
abbrev S16x2432x56x128 : Shape := ⟨4, ![16, 2432, 56, 128]⟩
abbrev S16x2432x56x1 : Shape := ⟨4, ![16, 2432, 56, 1]⟩
abbrev S2432x56x128 : Shape := ⟨3, ![2432, 56, 128]⟩
abbrev S2432x56x1 : Shape := ⟨3, ![2432, 56, 1]⟩

abbrev nBuf : Space → Nat
  | .hbm => 13
  | .vmem => 13
  | .smem => 0
  | _ => 0

abbrev bufTy : (tb : Table) → Fin (tcTables nBuf tb) → BufTy
  | .hbm, ⟨0, _⟩ => ⟨S16x2432x7168, .i8⟩
  | .hbm, ⟨1, _⟩ => ⟨S16x2432x56, .i32⟩
  | .hbm, ⟨2, _⟩ => ⟨S2432x7168, .f32⟩
  | .hbm, ⟨3, _⟩ => ⟨S2432x7168, .i8⟩
  | .hbm, ⟨4, _⟩ => ⟨S2432x56, .f32⟩
  | .hbm, ⟨5, _⟩ => ⟨S2432x7168, .bf16⟩
  | .hbm, ⟨6, _⟩ => ⟨S2432x7168, .f32⟩
  | .hbm, ⟨7, _⟩ => ⟨S2432x7168, .bf16⟩
  | .hbm, ⟨8, _⟩ => ⟨S2432x7168, .f32⟩
  | .hbm, ⟨9, _⟩ => ⟨S2432x7168, .fp8e4m3⟩
  | .hbm, ⟨10, _⟩ => ⟨S56x2432, .f32⟩
  | .hbm, ⟨11, _⟩ => ⟨S2432x7168, .fp8e4m3⟩
  | .hbm, ⟨12, _⟩ => ⟨S56x2432, .f32⟩
  | .local _ .vmem, ⟨0, _⟩ => ⟨S16x2432x7168, .i8⟩
  | .local _ .vmem, ⟨1, _⟩ => ⟨S16x2432x56, .i32⟩
  | .local _ .vmem, ⟨2, _⟩ => ⟨S2432x7168, .f32⟩
  | .local _ .vmem, ⟨3, _⟩ => ⟨S2432x7168, .i8⟩
  | .local _ .vmem, ⟨4, _⟩ => ⟨S2432x56, .f32⟩
  | .local _ .vmem, ⟨5, _⟩ => ⟨S2432x7168, .bf16⟩
  | .local _ .vmem, ⟨6, _⟩ => ⟨S2432x7168, .f32⟩
  | .local _ .vmem, ⟨7, _⟩ => ⟨S2432x7168, .bf16⟩
  | .local _ .vmem, ⟨8, _⟩ => ⟨S2432x7168, .f32⟩
  | .local _ .vmem, ⟨9, _⟩ => ⟨S2432x7168, .fp8e4m3⟩
  | .local _ .vmem, ⟨10, _⟩ => ⟨S56x2432, .f32⟩
  | .local _ .vmem, ⟨11, _⟩ => ⟨S2432x7168, .fp8e4m3⟩
  | .local _ .vmem, ⟨12, _⟩ => ⟨S56x2432, .f32⟩
  | _, _ => ⟨S16x2432x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "bc1" => some ((87842334540943071199 / 100000000000000000000 : ℝ) : EReal)
  | "bc2" => some ((67267626542454041806644399 / 104857600000000000000000000 : ℝ) : EReal)
  | "beta1" => some ((9 / 10 : ℝ) : EReal)
  | "beta2" => some ((19 / 20 : ℝ) : EReal)
  | "eps" => some ((1 / 100000000 : ℝ) : EReal)
  | "inv448" => some ((1 / 448 : ℝ) : EReal)
  | "ln2" => some ((Real.log 2 : ℝ) : EReal)
  | "lr" => some ((1 / 100 : ℝ) : EReal)
  | "tenth" => some ((1 / 10 : ℝ) : EReal)
  | "twentieth" => some ((1 / 20 : ℝ) : EReal)
  | _ => none

abbrev grid0 : Pipeline.Grid := .none

abbrev stage0_0 : Fin 1 → Memref sig .tc .vmem S16x2432x7168 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2432x56 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2432x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2432x7168 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2432x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2432x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2432x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2432x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2432x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2432x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S56x2432 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2432x7168 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S56x2432 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Unit.lean ====
module

public import proofs.«01_k».proof.Proof.Gen.KernelIdeal.Frame
public import Idealize.ShloMosaic.Lib.Pipeline.Value

/-! One unit of the kernel's tile: the 32 rows of group `q` in the 128 columns of block `b`, each of the 32 written the
same way, and the lists of stores the run leaves, as one list over the units. -/

@[expose] public section

set_option maxRecDepth 16384

noncomputable section

namespace Cert.Unit

open Cert.KernelIdeal Cert.KernelIdeal.Gen
open Idealize.ShloMosaic Idealize.ShloMosaic.TcCoe
open Idealize.SL Idealize.SL.Sem

variable {F : FTy → Type} [FloatOps F] [Named F]

/-- A load of a box of a staged block, at an index of the box: the block at the index shifted by the box's corner. -/
theorem load_apply {sp : Space} {s : Shape} {e : EltTy} (a : Memref sig .tc sp s e) (h : a.IsWhole) (x : Vec F s e)
    (off size : Fin s.rank → ℕ) (inb : ∀ d, off d + size d ≤ s.size d) (j : (Rect.unit off size inb).shape.Idx) (k : s.Idx)
    (hk : ∀ d, (k d).val = off d + (j d).val) :
    View.readAt (Elt F) a.view (Rect.unit off size inb).toLoadRect (h.unread x) j = x k := by
  rw [View.readAt_eq_ld, h.read_unread, View.ld_unit]
  exact extractStridedSlice_apply off x _ j k hk

/-! ## The unit's arithmetic -/

/-- The corner of the unit in the tile. -/
abbrev corner (u : Fin 4 × Fin 8) : Fin 2 → ℕ := ![32 * u.1.val, 128 * u.2.val]

/-- A unit's square lies within the tile. -/
theorem corner_inb (u : Fin 4 × Fin 8) : ∀ a, corner u a + S32x128.size a ≤ S128x1024.size a := by
  obtain ⟨q, b⟩ := u
  intro a
  fin_cases a
  · show 32 * q.val + 32 ≤ 128
    omega
  · show 128 * b.val + 128 ≤ 1024
    omega

/-- A unit's pair of blocks lies within the ranks' codes. -/
theorem codes_inb (u : Fin 4 × Fin 8) :
    ∀ a, (![0, 32 * u.1.val, 256 * (u.2.val / 2)] : Fin 3 → ℕ) a + S16x32x256.size a ≤ S16x128x1024.size a := by
  obtain ⟨q, b⟩ := u
  intro a
  fin_cases a
  · show 0 + 16 ≤ 16
    omega
  · show 32 * q.val + 32 ≤ 128
    omega
  · show 256 * (b.val / 2) + 256 ≤ 1024
    omega

/-- A unit's row of packed words lies within the words. -/
theorem word_inb (q : Fin 4) (b : Fin 8) :
    ∀ a, (![q.val, b.val, 0] : Fin 3 → ℕ) a + S1x1x512.size a ≤ S4x8x512.size a := by
  intro a
  fin_cases a
  · show q.val + 1 ≤ 4
    omega
  · show b.val + 1 ≤ 8
    omega
  · show 0 + 512 ≤ 512
    omega

/-- A unit's column of maxima lies within the scratch. -/
theorem amax_inb (u : Fin 4 × Fin 8) :
    ∀ a, (![32 * u.1.val, u.2.val] : Fin 2 → ℕ) a + S32x1.size a ≤ S128x128.size a := by
  obtain ⟨q, b⟩ := u
  intro a
  fin_cases a
  · show 32 * q.val + 32 ≤ 128
    omega
  · show b.val + 1 ≤ 128
    omega

/-- A block's part of the sums is a slice of them. -/
theorem part_slices (b : Fin 8) :
    Shape.Slices S64x256 ![32 * (b.val % 2), 128 * (b.val % 2)] S32x128 := by
  revert b; decide

/-- A unit's scales are a slice of the transposed scales. -/
theorem scale_slices (u : Fin 4 × Fin 8) : Shape.Slices S128x8 ![32 * u.1.val, u.2.val] S32x1 := by
  revert u; decide

/-- The unit's sums over the ranks: its quarter of the product. -/
def total (u : Fin 4 × Fin 8) (sums : FVec F S64x256 .f32) : FVec F S32x128 .f32 :=
  extractStridedSlice S32x128 ![32 * (u.2.val % 2), 128 * (u.2.val % 2)] sums (part_slices u.2)

/-- The unit's new first moment. -/
def mNew (u : Fin 4 × Fin 8) (rows : FVec F S128x8 .f32) (sums : FVec F S64x256 .f32) (mc : Vec F S32x128 .fp8e4m3) :
    FVec F S32x128 .f32 :=
  addf
    (mulf (extf .f32 (shapeCast S32x128 mc shapeCasts_S32x128_S32x128) bitsLt_fp8e4m3_f32)
      (broadcastTo S32x128
        (shapeCast S32x1 (extractStridedSlice S32x1 ![32 * u.1.val, u.2.val] rows (scale_slices u))
          shapeCasts_S32x1_S32x1) broadcasts_S32x1_S32x128))
    (mulf (total u sums) (broadcast S32x128 (Named.named κ "g_to_m" 0x3BCCCCCD#32)))

/-- The unit's new second moment. -/
def vNew (u : Fin 4 × Fin 8) (sums : FVec F S64x256 .f32) (v : Vec F S32x128 .bf16) : FVec F S32x128 .f32 :=
  addf (mulf (broadcast S32x128 (Named.named κ "beta2" 0x3F733333#32)) (extf .f32 v bitsLt_bf16_f32))
    (mulf (broadcast S32x128 (Named.named κ "gg_to_v" 0x394CCCCD#32)) (mulf (total u sums) (total u sums)))

/-- The unit's update. -/
def upd (m v : FVec F S32x128 .f32) (w : Vec F S32x128 .f32) : FVec F S32x128 .f32 :=
  k0_pay61 m v (Named.named κ "inv_bc2" 0x3FC78729#32) w

/-- The codes of a unit's block. -/
def quant (x : FVec F S32x128 .f32) : FVec F S32x128 .fp8e4m3 := k0_pay67 x (k0_pay65 x) k0_pay66

/-! ## The unit as the tile's function -/

section
variable (c : Dev nD) (arg2 : Memref sig .tc .vmem S16x128x1024 .fp8e5m2) (harg2 : arg2.IsWhole) (arg3 : Memref sig .tc .vmem S16x8x128 .i32) (harg3 : arg3.IsWhole) (arg4 : Memref sig .tc .vmem S128x1024 .f32) (harg4 : arg4.IsWhole) (arg5 : Memref sig .tc .vmem S128x1024 .fp8e4m3) (harg5 : arg5.IsWhole) (arg6 : Memref sig .tc .vmem S8x128 .f32) (harg6 : arg6.IsWhole) (arg7 : Memref sig .tc .vmem S128x1024 .bf16) (harg7 : arg7.IsWhole) (arg15 : Memref sig .tc .vmem S4x8x512 .i32)
  (x0 : Vec F S16x128x1024 .fp8e5m2) (x1 : Vec F S16x8x128 .i32) (x2 : Vec F S128x1024 .f32) (x3 : Vec F S128x1024 .fp8e4m3) (x4 : Vec F S8x128 .f32) (x5 : Vec F S128x1024 .bf16)

/-- The packed scales of group `q` and block `b`, read back from the scratch. -/
def words (q : Fin 4) (b : Fin 8) : Vec F S1x1x512 .i32 :=
  arg15.view.readCov (kernelRun0_A.sl.HS0_16 c arg3 harg3 x1)
    (Rect.unit (s := S4x8x512) ![q.val, b.val, 0] S1x1x512.size (word_inb q b)).toLoadRect

/-- The block's left neighbour of the pair the product takes. -/
def evenOf (b : Fin 8) : Fin 8 := ⟨2 * (b.val / 2), by omega⟩
/-- The block's right neighbour of the pair the product takes. -/
def oddOf (b : Fin 8) : Fin 8 := ⟨2 * (b.val / 2) + 1, by omega⟩

/-- The product of the unit's pair of blocks. -/
def sums (u : Fin 4 × Fin 8) : FVec F S64x256 .f32 :=
  k0_pay56 kernelRun0_A.sl.v384 kernelRun0_A.sl.v399
    (words c arg3 harg3 arg15 x1 u.1 (evenOf u.2)) (words c arg3 harg3 arg15 x1 u.1 (oddOf u.2))
    (View.readAt (Elt F) arg2.view (Rect.unit (s := S16x128x1024) ![0, 32 * u.1.val, 256 * (u.2.val / 2)] S16x32x256.size (codes_inb u)).toLoadRect
      (harg2.unread x0))

/-- The unit's new first moment, from the tile's operands. -/
def mAt (u : Fin 4 × Fin 8) : FVec F S32x128 .f32 :=
  mNew u (k0_pay48 (View.readAt (Elt F) arg6.view (Rect.unit ![0, 0] S8x128.size inb_S8x128_S8x128_0_0).toLoadRect (harg6.unread x4)))
    (sums c arg2 harg2 arg3 harg3 arg15 x0 x1 u)
    (View.readAt (Elt F) arg5.view (Rect.unit (s := S128x1024) (corner u) S32x128.size (corner_inb u)).toLoadRect (harg5.unread x3))

/-- The unit's new second moment, from the tile's operands. -/
def vAt (u : Fin 4 × Fin 8) : FVec F S32x128 .f32 :=
  vNew u (sums c arg2 harg2 arg3 harg3 arg15 x0 x1 u)
    (View.readAt (Elt F) arg7.view (Rect.unit (s := S128x1024) (corner u) S32x128.size (corner_inb u)).toLoadRect (harg7.unread x5))

/-- The unit's master weights. -/
def wAt (u : Fin 4 × Fin 8) : Vec F S32x128 .f32 :=
  View.readAt (Elt F) arg4.view (Rect.unit (s := S128x1024) (corner u) S32x128.size (corner_inb u)).toLoadRect (harg4.unread x2)

/-- The unit's update, from the tile's operands. -/
def uAt (u : Fin 4 × Fin 8) : FVec F S32x128 .f32 :=
  upd (mAt c arg2 harg2 arg3 harg3 arg5 harg5 arg6 harg6 arg15 x0 x1 x3 x4 u)
    (vAt c arg2 harg2 arg3 harg3 arg7 harg7 arg15 x0 x1 x5 u) (wAt arg4 harg4 x2 u)

/-- The unit's new weights, from the tile's operands. -/
def pAt (u : Fin 4 × Fin 8) : FVec F S32x128 .f32 :=
  subf (wAt arg4 harg4 x2 u)
    (uAt c arg2 harg2 arg3 harg3 arg4 harg4 arg5 harg5 arg6 harg6 arg7 harg7 arg15 x0 x1 x2 x3 x4 x5 u)

/-- The unit's place in the tile. -/
abbrev place (u : Fin 4 × Fin 8) : Rect S128x1024 := Rect.unit (corner u) S32x128.size (corner_inb u)

/-- The unit's column of block maxima in the scratch. -/
abbrev column (u : Fin 4 × Fin 8) : Rect S128x128 := Rect.unit ![32 * u.1.val, u.2.val] S32x1.size (amax_inb u)

/-- The units, the last stored first. -/
def units : List (Fin 4 × Fin 8) :=
  [(3, 7), (3, 6), (3, 5), (3, 4), (3, 3), (3, 2), (3, 1), (3, 0),
   (2, 7), (2, 6), (2, 5), (2, 4), (2, 3), (2, 2), (2, 1), (2, 0),
   (1, 7), (1, 6), (1, 5), (1, 4), (1, 3), (1, 2), (1, 1), (1, 0),
   (0, 7), (0, 6), (0, 5), (0, 4), (0, 3), (0, 2), (0, 1), (0, 0)]

/-- Every unit is in the list of units. -/
theorem mem_units (u : Fin 4 × Fin 8) : u ∈ units := by
  revert u; decide

end

section
variable (c : Dev nD) (i : grid0.Coords) (arg2 : Memref sig .tc .vmem S16x128x1024 .fp8e5m2) (harg2 : arg2.IsWhole) (arg3 : Memref sig .tc .vmem S16x8x128 .i32) (harg3 : arg3.IsWhole) (arg4 : Memref sig .tc .vmem S128x1024 .f32) (harg4 : arg4.IsWhole) (arg5 : Memref sig .tc .vmem S128x1024 .fp8e4m3) (harg5 : arg5.IsWhole) (arg6 : Memref sig .tc .vmem S8x128 .f32) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S128x1024 .fp8e4m3) (harg11 : arg11.IsWhole) (arg12 : Memref sig .tc .vmem S8x128 .f32) (harg12 : arg12.IsWhole) (arg13 : Memref sig .tc .vmem S128x1024 .fp8e4m3) (harg13 : arg13.IsWhole) (arg14 : Memref sig .tc .vmem S8x128 .f32) (harg14 : arg14.IsWhole) (arg15 : Memref sig .tc .vmem S4x8x512 .i32) (harg15 : arg15.IsWhole) (arg16 : Memref sig .tc .vmem S128x128 .f32) (harg16 : arg16.IsWhole) (arg17 : Memref sig .tc .vmem S128x128 .f32) (harg17 : arg17.IsWhole)
  (x0 : Vec F S16x128x1024 .fp8e5m2) (x1 : Vec F S16x8x128 .i32) (x2 : Vec F S128x1024 .f32) (x3 : Vec F S128x1024 .fp8e4m3) (x4 : Vec F S8x128 .f32) (x5 : Vec F S128x1024 .bf16)

/-- The stores of the new weights, unit by unit. -/
theorem master_pieces : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).1 =
    units.map fun u => ⟨place u, pAt c arg2 harg2 arg3 harg3 arg4 harg4 arg5 harg5 arg6 harg6 arg7 harg7 arg15 x0 x1 x2 x3 x4 x5 u⟩ := rfl

/-- The stores of the new second moments, unit by unit. -/
theorem second_pieces : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).2.1 =
    units.map fun u => ⟨place u, truncf .bf16 (vAt c arg2 harg2 arg3 harg3 arg7 harg7 arg15 x0 x1 x5 u) bitsLt_bf16_f32⟩ := rfl

/-- The stores of the updates, unit by unit. -/
theorem update_pieces : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).2.2.1 =
    units.map fun u => ⟨place u, uAt c arg2 harg2 arg3 harg3 arg4 harg4 arg5 harg5 arg6 harg6 arg7 harg7 arg15 x0 x1 x2 x3 x4 x5 u⟩ := rfl

/-- The stores of the first moments' codes, unit by unit. -/
theorem mCodes_pieces : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).2.2.2.1 =
    units.map fun u => ⟨place u, quant (mAt c arg2 harg2 arg3 harg3 arg5 harg5 arg6 harg6 arg15 x0 x1 x3 x4 u)⟩ := rfl

/-- The stores of the weights' codes, unit by unit. -/
theorem pCodes_pieces : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).2.2.2.2.2.1 =
    units.map fun u => ⟨place u, quant (pAt c arg2 harg2 arg3 harg3 arg4 harg4 arg5 harg5 arg6 harg6 arg7 harg7 arg15 x0 x1 x2 x3 x4 x5 u)⟩ := rfl

/-- The stores of the first moments' block maxima, unit by unit. -/
theorem mAmax_pieces : kernelRun0_A.sl.HS1_32 c arg2 harg2 arg3 harg3 arg5 harg5 arg6 harg6 arg15 x0 x1 x3 x4 =
    units.map fun u => ⟨column u, k0_pay64 (mAt c arg2 harg2 arg3 harg3 arg5 harg5 arg6 harg6 arg15 x0 x1 x3 x4 u)⟩ := rfl

/-- The stores of the weights' block maxima, unit by unit. -/
theorem pAmax_pieces : kernelRun0_A.sl.HS2_32 c arg2 harg2 arg3 harg3 arg4 harg4 arg5 harg5 arg6 harg6 arg7 harg7 arg15 x0 x1 x2 x3 x4 x5 =
    units.map fun u => ⟨column u, k0_pay64 (pAt c arg2 harg2 arg3 harg3 arg4 harg4 arg5 harg5 arg6 harg6 arg7 harg7 arg15 x0 x1 x2 x3 x4 x5 u)⟩ := rfl

end

end Cert.Unit
-- ==== Proof.Pack.lean ====
module

public import proofs.«01_k».proof.Proof.Unit
public import Idealize.ShloMosaic.Lib.Pointwise
public import Idealize.ShloMosaic.Lib.KernelVsHost
public import Idealize.ShloMosaic.Lib.Pipeline.Value

/-! The packed scales: what the kernel's scratch holds after the packing, word by word. -/

@[expose] public section

set_option maxRecDepth 16384

noncomputable section

namespace Cert.Pack

open Cert.KernelIdeal Cert.KernelIdeal.Gen
open Idealize.ShloMosaic Idealize.ShloMosaic.TcCoe
open Idealize.SL Idealize.SL.Sem

variable {F : FTy → Type} [FloatOps F] [Named F]

variable (c : Dev nD) (arg3 : Memref sig .tc .vmem S16x8x128 .i32) (harg3 : arg3.IsWhole)
  (arg15 : Memref sig .tc .vmem S4x8x512 .i32) (x1 : Vec F S16x8x128 .i32)

/-- A scale's word with its high half copied over its low one. -/
def doubled (w : BitVec 32) : BitVec 32 := w ||| w >>> 16

/-- A rank's scales lie within the block of scales. -/
theorem rank_inb (p : Fin 16) :
    ∀ a, (![p.val, 0, 0] : Fin 3 → ℕ) a + S1x8x128.size a ≤ S16x8x128.size a := by
  intro a
  fin_cases a
  · show p.val + 1 ≤ 16
    omega
  · show 0 + 8 ≤ 8
    omega
  · show 0 + 128 ≤ 128
    omega

/-- A slab of four ranks lies within the packed words. -/
theorem slab_inb (u : Fin 4 × Fin 4) :
    ∀ a, (![u.1.val, 0, 128 * u.2.val] : Fin 3 → ℕ) a + S1x8x128.size a ≤ S4x8x512.size a := by
  obtain ⟨q, g⟩ := u
  intro a
  fin_cases a
  · show q.val + 1 ≤ 4
    omega
  · show 0 + 8 ≤ 8
    omega
  · show 128 * g.val + 128 ≤ 512
    omega

/-- One rank's scales. -/
def rank (p : Fin 16) : IVec S8x128 32 :=
  shapeCast S8x128
    (View.readAt (Elt F) arg3.view (Rect.unit (s := S16x8x128) ![p.val, 0, 0] S1x8x128.size (rank_inb p)).toLoadRect (harg3.unread x1))
    shapeCasts_S1x8x128_S8x128

/-- One rank's scales, each word doubled. -/
def packed (p : Fin 16) : IVec S8x128 32 :=
  ori (rank arg3 harg3 x1 p) (shrui (rank arg3 harg3 x1 p) (broadcast S8x128 16#32))

/-- The rank numbered `k` of the four numbered from `4 g`. -/
def rankOf (g k : Fin 4) : Fin 16 := ⟨4 * g.val + k.val, by omega⟩

/-- The lanes of group `k` taken from rank `k`, turned to row group `q`, the others from `acc`. -/
def turned (q g k : Fin 4) (acc : IVec S8x128 32) : IVec S8x128 32 :=
  select (cmpi .eq kernelRun0_A.sl.v24 (broadcast S8x128 (BitVec.ofNat 32 k.val)))
    (dynamicRotate 1 (BitVec.ofNat 32 (32 * ((k.val + 4 - q.val) % 4))) none (packed arg3 harg3 x1 (rankOf g k)) rotates_S8x128_d1) acc

/-- What the packing stores for row group `q` and the ranks from `4 g`. -/
def stored (u : Fin 4 × Fin 4) : IVec S1x8x128 32 :=
  shapeCast S1x8x128
    (List.foldl (fun acc k => if k = u.1 then acc else turned arg3 harg3 x1 u.1 u.2 k acc)
      (packed arg3 harg3 x1 (rankOf u.2 u.1)) [0, 1, 2, 3])
    shapeCasts_S8x128_S1x8x128

/-- The packing's stores, the last first. -/
theorem pieces : kernelRun0_A.sl.HS0_16 c arg3 harg3 x1 =
    ([(3, 3), (2, 3), (1, 3), (0, 3), (3, 2), (2, 2), (1, 2), (0, 2), (3, 1), (2, 1), (1, 1), (0, 1), (3, 0), (2, 0),
      (1, 0), (0, 0)] : List (Fin 4 × Fin 4)).map fun u =>
      ⟨Rect.unit (s := S4x8x512) ![u.1.val, 0, 128 * u.2.val] S1x8x128.size (slab_inb u), stored arg3 harg3 x1 u⟩ := rfl

/-- The lane's group. -/
theorem lane_group (b : Fin 8) (l : Fin 128) :
    kernelRun0_A.sl.v24 (ix2 b l) = BitVec.ofNat 32 (l.val / 32) := by
  show (kernelRun0_A.sl.v24 (ix2 0 l)) = _
  revert l
  decide

/-- A word of one rank, doubled. -/
theorem packed_apply (p : Fin 16) (b : Fin 8) (l : Fin 128) :
    packed arg3 harg3 x1 p (ix2 b l) = doubled (x1 (ix3 p b l)) := by
  have h : rank arg3 harg3 x1 p (ix2 b l) = x1 (ix3 p b l) := by
    unfold rank
    refine (shapeCast_apply _ _ (ix2 b l) (ix3 (0 : Fin 1) b l) (by
      rw [Shape.rowMajor_val_three, Shape.rowMajor_val_two]
      show (0 * 8 + b.val) * 128 + l.val = b.val * 128 + l.val
      omega)).trans ?_
    refine Unit.load_apply _ _ _ _ _ _ _ _ fun d => ?_
    fin_cases d
    · show p.val = p.val + 0
      rfl
    · show b.val = 0 + b.val
      omega
    · show l.val = 0 + l.val
      omega
  show rank arg3 harg3 x1 p (ix2 b l) ||| rank arg3 harg3 x1 p (ix2 b l) >>> (16#32 : BitVec 32) = _
  rw [h]
  rfl

/-- One step of the packing at a lane. -/
theorem turned_apply (q g k : Fin 4) (acc : IVec S8x128 32) (b : Fin 8) (l : Fin 128) :
    turned arg3 harg3 x1 q g k acc (ix2 b l) =
      if l.val / 32 = k.val then doubled (x1 (ix3 (rankOf g k) b ⟨32 * q.val + l.val % 32, by omega⟩)) else acc (ix2 b l) := by
  unfold turned
  have hc : cmpi .eq kernelRun0_A.sl.v24 (broadcast S8x128 (BitVec.ofNat 32 k.val)) (ix2 b l)
      = if l.val / 32 = k.val then 1#1 else 0#1 := by
    show BitVec.ofBool (kernelRun0_A.sl.v24 (ix2 b l) == BitVec.ofNat 32 k.val) = _
    rw [lane_group]
    have small : ∀ x k : Fin 4, BitVec.ofBool (BitVec.ofNat 32 x.val == BitVec.ofNat 32 k.val) =
        if x.val = k.val then 1#1 else 0#1 := by decide
    exact small ⟨l.val / 32, by omega⟩ k
  show (if cmpi .eq kernelRun0_A.sl.v24 (broadcast S8x128 (BitVec.ofNat 32 k.val)) (ix2 b l) = 1#1 then _ else _) = _
  rw [hc]
  by_cases hl : l.val / 32 = k.val
  · rw [if_pos hl, if_pos hl, if_pos rfl, ← packed_apply]
    refine dynamicRotate_apply _ _ _ _ _ _ fun d => ?_
    fin_cases d
    · rfl
    · show 32 * q.val + l.val % 32 = (l.val + 128 - (BitVec.ofNat 32 (32 * ((k.val + 4 - q.val) % 4))).toNat % 128) % 128
      rw [BitVec.toNat_ofNat]
      omega
  · rw [if_neg hl, if_neg hl, if_neg (by decide)]

/-- What the packing stores, at a lane. -/
theorem stored_apply (u : Fin 4 × Fin 4) (b : Fin 8) (l : Fin 128) :
    stored arg3 harg3 x1 u (ix3 0 b l) =
      doubled (x1 (ix3 (rankOf u.2 ⟨l.val / 32, by omega⟩) b ⟨32 * u.1.val + l.val % 32, by omega⟩)) := by
  obtain ⟨q, g⟩ := u
  unfold stored
  refine (shapeCast_apply _ _ (ix3 0 b l) (ix2 b l) (by
    rw [Shape.rowMajor_val_three, Shape.rowMajor_val_two]
    show b.val * 128 + l.val = (0 * 8 + b.val) * 128 + l.val
    omega)).trans ?_
  have step : ∀ (k : Fin 4) (acc : IVec S8x128 32), l.val / 32 = k.val → k ≠ q ∨ acc (ix2 b l) =
      doubled (x1 (ix3 (rankOf g k) b ⟨32 * q.val + l.val % 32, by omega⟩)) →
      (if k = q then acc else turned arg3 harg3 x1 q g k acc) (ix2 b l) =
        doubled (x1 (ix3 (rankOf g k) b ⟨32 * q.val + l.val % 32, by omega⟩)) := by
    intro k acc hk h
    by_cases hkq : k = q
    · rw [if_pos hkq]
      exact h.resolve_left (not_not.mpr hkq)
    · rw [if_neg hkq, turned_apply, if_pos hk]
  have skip : ∀ (k : Fin 4) (acc : IVec S8x128 32), l.val / 32 ≠ k.val →
      (if k = q then acc else turned arg3 harg3 x1 q g k acc) (ix2 b l) = acc (ix2 b l) := by
    intro k acc hk
    by_cases hkq : k = q
    · rw [if_pos hkq]
    · rw [if_neg hkq, turned_apply, if_neg hk]
  have own : ∀ k : Fin 4, l.val / 32 = k.val → k ≠ q ∨ packed arg3 harg3 x1 (rankOf g q) (ix2 b l) =
      doubled (x1 (ix3 (rankOf g k) b ⟨32 * q.val + l.val % 32, by omega⟩)) := by
    intro k hk
    by_cases hkq : k = q
    · subst hkq
      right
      rw [packed_apply]
      have : (⟨32 * k.val + l.val % 32, by omega⟩ : Fin 128) = l := Fin.ext (by simp only; omega)
      rw [this]
    · exact .inl hkq
  obtain ⟨k, hk⟩ : ∃ k : Fin 4, l.val / 32 = k.val := ⟨⟨l.val / 32, by omega⟩, rfl⟩
  have hk' : (⟨l.val / 32, by omega⟩ : Fin 4) = k := Fin.ext hk
  rw [hk']
  simp only [List.foldl]
  clear hk'
  fin_cases k
  · rw [skip 3 _ (by rw [hk]; decide), skip 2 _ (by rw [hk]; decide), skip 1 _ (by rw [hk]; decide)]
    exact step 0 _ hk (own 0 hk)
  · rw [skip 3 _ (by rw [hk]; decide), skip 2 _ (by rw [hk]; decide)]
    refine step 1 _ hk ((own 1 hk).imp_right fun h => ?_)
    rw [skip 0 _ (by rw [hk]; decide)]
    exact h
  · rw [skip 3 _ (by rw [hk]; decide)]
    refine step 2 _ hk ((own 2 hk).imp_right fun h => ?_)
    rw [skip 1 _ (by rw [hk]; decide), skip 0 _ (by rw [hk]; decide)]
    exact h
  · refine step 3 _ hk ((own 3 hk).imp_right fun h => ?_)
    rw [skip 2 _ (by rw [hk]; decide), skip 1 _ (by rw [hk]; decide), skip 0 _ (by rw [hk]; decide)]
    exact h

/-- The scratch's word at an index: the scale of rank `lane / 32`, row `32 q + lane % 32`. -/
def wordAt (y : S4x8x512.Idx) : BitVec 32 :=
  doubled (x1 (ix3 (⟨(y 2).val / 32, by have : (y 2).val < 512 := (y 2).isLt; omega⟩ : Fin 16) (y 1)
    (⟨32 * (y 0).val + (y 2).val % 32, by have : (y 0).val < 4 := (y 0).isLt; omega⟩ : Fin 128)))

/-- The packed scales of a row group and a block: the word of lane `32 p + i` is the scale of rank `p`, row `32 q + i`. -/
theorem words_apply (q : Fin 4) (b : Fin 8) (l : Fin 512) :
    Unit.words c arg3 harg3 arg15 x1 q b (ix3 0 0 l) =
      doubled (x1 (ix3 ⟨l.val / 32, by omega⟩ b ⟨32 * q.val + l.val % 32, by omega⟩)) := by
  have cover : ∀ y : S4x8x512.Idx, ∃ p ∈ kernelRun0_A.sl.HS0_16 c arg3 harg3 x1, y ∈ p.1.set :=
    View.cover_of_tiledL _ S1x8x128.size (by sl_kernel_rfl)
  unfold Unit.words
  rw [View.readCov_eq_canon_ld _ _ _ cover, View.ld_unit]
  refine (extractStridedSlice_apply _ _ _ _ (ix3 q b l) fun d => ?_).trans ?_
  · fin_cases d
    · show q.val = q.val + 0
      rfl
    · show b.val = b.val + 0
      omega
    · show l.val = 0 + l.val
      omega
  · refine (View.canon_apply_of_pieces (wordAt x1) _ ?_ _ (cover _)).trans rfl
    rw [pieces]
    intro p hp x
    obtain ⟨u, -, rfl⟩ := List.mem_map.mp hp
    obtain ⟨q, g⟩ := u
    obtain ⟨y, k, rfl⟩ : ∃ (y : Fin 8) (k : Fin 128), x = (ix3 (0 : Fin 1) y k : S1x8x128.Idx) := ⟨x 1, x 2, by
      funext d
      fin_cases d
      · exact Subsingleton.elim (α := Fin 1) _ _
      · rfl
      · rfl⟩
    have h2 := k.isLt
    have hg := g.isLt
    refine (stored_apply arg3 harg3 x1 (q, g) y k).trans ?_
    unfold wordAt
    refine congrArg doubled (congrArg x1 (funext fun d => Fin.ext ?_))
    fin_cases d
    · show 4 * g.val + k.val / 32 = (128 * g.val + 1 * k.val) / 32
      omega
    · show y.val = 0 + 1 * y.val
      omega
    · show 32 * q.val + k.val % 32 = 32 * (q.val + 1 * 0) + (128 * g.val + 1 * k.val) % 32
      omega

end Cert.Pack
-- ==== Proof.Words.lean ====
/-
  Powers of two as f32 words. A word with an exponent field and nothing else is `word E`; here is the number it denotes,
  what the search for the greatest such word below a number finds, and that the scale and the inverse scale made from
  that word are the powers of two whose exponent is the floor of the base-two logarithm, plus one.
-/
module

public import Idealize.ShloMosaic.PureOps.Ideal.Laws

@[expose] public section

noncomputable section

namespace Cert.Words

open Idealize.ShloMosaic

/-- The word with exponent field `E` and no fraction. -/
def word (E : ℕ) : BitVec 32 := BitVec.ofNat 32 (E * 2 ^ 23)

/-- The word `E << 23` as a natural number. -/
theorem toNat_word {E : ℕ} (h : E < 512) : (word E).toNat = E * 2 ^ 23 := by
  unfold word
  rw [BitVec.toNat_ofNat, Nat.mod_eq_of_lt (by omega)]

/-- The word `E << 23` as an integer. -/
theorem toInt_word {E : ℕ} (h : E < 256) : (word E).toInt = E * 2 ^ 23 := by
  rw [BitVec.toInt_eq_toNat_of_lt (by rw [toNat_word (by omega)]; omega), toNat_word (by omega)]
  push_cast; ring

/-- Its exponent field. -/
theorem exponent_word {E : ℕ} (h : E < 256) : ((word E).extractLsb' 23 8).toNat = E := by
  rw [BitVec.extractLsb'_toNat, toNat_word (by omega), Nat.shiftRight_eq_div_pow]; omega

/-- Its fraction field. -/
theorem fraction_word {E : ℕ} (h : E < 256) : ((word E).extractLsb' 0 23).toNat = 0 := by
  rw [BitVec.extractLsb'_toNat, toNat_word (by omega), Nat.shiftRight_eq_div_pow]; omega

/-- Its sign. -/
theorem sign_word {E : ℕ} (h : E < 256) : ((word E).extractLsb' 31 1 == 1#1) = false := by
  rw [beq_eq_false_iff_ne]; intro e
  have := congrArg BitVec.toNat e
  rw [BitVec.extractLsb'_toNat, toNat_word (by omega), Nat.shiftRight_eq_div_pow] at this
  simp at this; omega

/-- A normal exponent's word denotes the power of two. -/
theorem float_word {E : ℕ} (h1 : 1 ≤ E) (h2 : E ≤ 254) :
    Ideal.ofBits .f32 (word E) = (((2 : ℝ) ^ ((E : ℤ) - 127) : ℝ) : EReal) := by
  show Ideal.ieee 8 23 (word E) = _
  unfold Ideal.ieee
  simp only [exponent_word (show E < 256 by omega), fraction_word (show E < 256 by omega), sign_word (show E < 256 by omega)]
  rw [if_neg (by omega), if_neg (by omega)]
  congr 1
  rw [show ((E : ℤ) - (2 ^ (8 - 1) - 1) - (23 : ℕ)) = ((E : ℤ) - 127) - 23 by norm_num, zpow_sub₀ (by norm_num)]
  norm_num
  ring

/-- The word 0 is the float zero. -/
theorem float_word_zero : Ideal.ofBits .f32 (word 0) = 0 := by
  show Ideal.ieee 8 23 (word 0) = _
  unfold Ideal.ieee
  simp only [exponent_word (show 0 < 256 by omega), fraction_word (show 0 < 256 by omega), sign_word (show 0 < 256 by omega)]
  simp

/-- The word of exponent 255 is infinity. -/
theorem float_word_top : Ideal.ofBits .f32 (word 255) = ⊤ := by
  show Ideal.ieee 8 23 (word 255) = _
  unfold Ideal.ieee
  simp only [exponent_word (show 255 < 256 by omega), fraction_word (show 255 < 256 by omega), sign_word (show 255 < 256 by omega)]
  simp

/-- The smallest normal number, `2⁻¹²⁶`. -/
def tiny : ℝ := 2 ^ (-126 : ℤ)

/-- The word of the smallest normal. -/
theorem float_tiny : Ideal.ofBits .f32 0x00800000#32 = (tiny : EReal) := float_word (E := 1) le_rfl (by norm_num)

/-- The smallest normal is positive. -/
theorem tiny_pos : 0 < tiny := by unfold tiny; positivity

/-- The signed maximum, as an integer. -/
theorem toInt_maxsi (x y : BitVec 32) : (IntOp.maxsi x y).toInt = max x.toInt y.toInt := by
  unfold IntOp.maxsi
  simp only [BitVec.slt, decide_eq_true_eq]
  split <;> omega

/-- The greatest of the words `E << 23` whose float is at most `x`, and 0 if there is none. -/
def expWord (x : EReal) : BitVec 32 :=
  (Finset.univ : Finset (Fin 256)).fold IntOp.maxsi 2147483648#32
    fun k => if x < Ideal.ofBits .f32 (word k.val) then 0#32 else word k.val

/-- The search finds `word E` once `E` is the greatest exponent whose float is at most `x`. -/
theorem expWord_eq {x : EReal} {E : ℕ} (hE : E < 256) (hlo : Ideal.ofBits .f32 (word E) ≤ x)
    (hhi : ∀ k, E < k → k < 256 → x < Ideal.ofBits .f32 (word k)) : expWord x = word E := by
  apply BitVec.eq_of_toInt_eq
  unfold expWord
  rw [← Finset.fold_hom (op' := max) (m := BitVec.toInt) (fun x y => toInt_maxsi x y)]
  apply le_antisymm
  · rw [Finset.fold_max_le]
    refine ⟨?_, fun k _ => ?_⟩
    · rw [toInt_word hE]
      have : (2147483648#32).toInt = -2147483648 := by decide
      rw [this]; omega
    · split
      · rw [toInt_word hE]; simp
      · rename_i h
        have hk : (k : ℕ) ≤ E := by
          by_contra hk; exact h (hhi k (by omega) k.isLt)
        rw [toInt_word hE, toInt_word k.isLt]; omega
  · rw [Finset.le_fold_max]
    refine .inr ⟨⟨E, hE⟩, Finset.mem_univ _, ?_⟩
    rw [if_neg (not_lt.mpr hlo)]

/-- Below the smallest normal number the search finds 0. -/
theorem expWord_small {a : ℝ} (h0 : 0 ≤ a) (h : a < tiny) : expWord a = word 0 := by
  apply expWord_eq (by norm_num)
  · rw [float_word_zero]; exact_mod_cast h0
  · intro k hk hk'
    rcases eq_or_ne k 255 with rfl | hne
    · rw [float_word_top]; exact EReal.coe_lt_top a
    · rw [float_word (by omega) (by omega), EReal.coe_lt_coe_iff]
      refine h.trans_le ?_
      unfold tiny
      exact zpow_le_zpow_right₀ (by norm_num) (by omega)

/-- From there on it finds the exponent, biased by 127. -/
theorem expWord_normal {a : ℝ} {n : ℤ} (hn : -126 ≤ n) (hn' : n ≤ 127) (hlo : (2 : ℝ) ^ n ≤ a) (hhi : a < (2 : ℝ) ^ (n + 1)) :
    expWord a = word (n + 127).toNat := by
  apply expWord_eq (by omega)
  · rw [float_word (by omega) (by omega), EReal.coe_le_coe_iff]
    rwa [show (((n + 127).toNat : ℤ) - 127) = n by omega]
  · intro k hk hk'
    rcases eq_or_ne k 255 with rfl | hne
    · rw [float_word_top]; exact EReal.coe_lt_top a
    · rw [float_word (by omega) (by omega), EReal.coe_lt_coe_iff]
      refine hhi.trans_le ?_
      exact zpow_le_zpow_right₀ (by norm_num) (by omega)

/-- The scale's word from the exponent word, as the kernel forms it. -/
def scaleWord (w : BitVec 32) : BitVec 32 := if w = 0#32 then 1065353216#32 else w + 8388608#32

/-- The inverse scale's word from the exponent word, as the kernel forms it. -/
def invWord (w : BitVec 32) : BitVec 32 := if w = 0#32 then 1065353216#32 else 2122317824#32 - w

/-- The exponent of a block's scale as the reference states it. -/
def refExp (x : EReal) : EReal :=
  if x < Ideal.ofBits .f32 0x00800000#32 then 0
  else Ideal.liftRound Int.floor (Ideal.div (Ideal.log x) ((Real.log 2 : ℝ) : EReal)) + 1

/-- The floor of the base-two logarithm. -/
def log2 (a : ℝ) : ℤ := ⌊Real.log a / Real.log 2⌋

/-- The logarithm of two is positive. -/
theorem log_two_pos : 0 < Real.log 2 := Real.log_pos (by norm_num)

/-- Two to the whole binary logarithm is at most the number. -/
theorem zpow_log2_le {a : ℝ} (ha : 0 < a) : (2 : ℝ) ^ log2 a ≤ a := by
  rw [← Real.log_le_log_iff (by positivity) ha, Real.log_zpow, ← le_div_iff₀ log_two_pos]
  exact Int.floor_le _

/-- The number is below the next power of two. -/
theorem lt_zpow_log2 {a : ℝ} (ha : 0 < a) : a < (2 : ℝ) ^ (log2 a + 1) := by
  rw [← Real.log_lt_log_iff ha (by positivity), Real.log_zpow, ← div_lt_iff₀ log_two_pos]
  push_cast
  exact Int.lt_floor_add_one _

/-- The exponent that both forms of the quantiser use. -/
def exponent (a : ℝ) : ℤ := if a < tiny then 0 else log2 a + 1

/-- The reference's exponent is a whole number. -/
theorem refExp_eq (a : ℝ) : refExp a = ((exponent a : ℝ) : EReal) := by
  unfold refExp exponent
  rw [float_tiny]
  by_cases h : a < tiny
  · rw [if_pos (by exact_mod_cast h), if_pos h]; simp
  · have ha : 0 < a := tiny_pos.trans_le (not_lt.mp h)
    rw [if_neg (by exact_mod_cast h), if_neg h]
    have hl : Real.log 2 ≠ 0 := (Real.log_pos (by norm_num)).ne'
    have : Ideal.log (a : EReal) = ((Real.log a : ℝ) : EReal) := by
      show (if a ≤ 0 then (⊥ : EReal) else _) = _
      rw [if_neg (not_le.mpr ha)]
    rw [this]
    have hd : Ideal.div ((Real.log a : ℝ) : EReal) ((Real.log 2 : ℝ) : EReal) = ((Real.log a / Real.log 2 : ℝ) : EReal) := by
      unfold Ideal.div
      rw [if_neg (by exact_mod_cast hl), ← EReal.coe_inv, ← EReal.coe_mul]
      rfl
    rw [hd]
    show (((log2 a : ℝ) : EReal)) + 1 = _
    push_cast; rfl

/-- The bounds of the exponent of a normal number. -/
theorem exponent_bounds {a : ℝ} (h1 : ¬ a < tiny) (h2 : a < 2 ^ (126 : ℤ)) :
    -126 ≤ log2 a ∧ log2 a ≤ 125 := by
  have ha : 0 < a := tiny_pos.trans_le (not_lt.mp h1)
  have hlo := zpow_log2_le ha
  have hhi := lt_zpow_log2 ha
  have h1' : (2 : ℝ) ^ (-126 : ℤ) ≤ a := not_lt.mp h1
  have e1 := (zpow_lt_zpow_iff_right₀ (show (1 : ℝ) < 2 by norm_num)).mp (h1'.trans_lt hhi)
  have e2 := (zpow_lt_zpow_iff_right₀ (show (1 : ℝ) < 2 by norm_num)).mp (hlo.trans_lt h2)
  omega

/-- Two to a whole power. -/
theorem exp2_int (n : ℤ) : Ideal.exp2 (((n : ℝ)) : EReal) = (((2 : ℝ) ^ n : ℝ) : EReal) := by
  show ((Real.rpow 2 (n : ℝ) : ℝ) : EReal) = _
  congr 1
  exact Real.rpow_intCast 2 n

/-- The word of exponent zero is the word zero. -/
theorem word_zero : word 0 = 0#32 := rfl

/-- No other word is zero. -/
theorem word_ne_zero {E : ℕ} (h1 : 1 ≤ E) (h2 : E < 256) : word E ≠ 0#32 := by
  intro e
  have := congrArg BitVec.toNat e
  rw [toNat_word (by omega)] at this
  simp at this; omega

/-- Adding one to the exponent field. -/
theorem word_add {E : ℕ} (h : E < 256) : word E + 8388608#32 = word (E + 1) := by
  apply BitVec.eq_of_toNat_eq
  rw [BitVec.toNat_add, toNat_word (by omega), toNat_word (by omega)]
  simp; omega

/-- Negating the exponent: from 253 down. -/
theorem word_sub {E : ℕ} (h : E ≤ 253) : 2122317824#32 - word E = word (253 - E) := by
  apply BitVec.eq_of_toNat_eq
  rw [BitVec.toNat_sub, toNat_word (by omega), toNat_word (by omega)]
  simp; omega

/-- The word of one. -/
theorem float_one : Ideal.ofBits .f32 1065353216#32 = 1 := by
  have := float_word (E := 127) (by norm_num) (by norm_num)
  simpa using (show Ideal.ofBits .f32 1065353216#32 = _ from this)

/-- The scale made from the exponent word is two to the exponent. -/
theorem scale_eq {a : ℝ} (h0 : 0 ≤ a) (h2 : a < 2 ^ (126 : ℤ)) :
    Ideal.ofBits .f32 (scaleWord (expWord a)) = Ideal.exp2 (refExp a) := by
  rw [refExp_eq, exp2_int]
  unfold exponent scaleWord
  by_cases h : a < tiny
  · rw [expWord_small h0 h, if_pos word_zero, if_pos h, float_one]; simp
  · obtain ⟨hb1, hb2⟩ := exponent_bounds h h2
    have ha : 0 < a := tiny_pos.trans_le (not_lt.mp h)
    have hlo := zpow_log2_le ha
    have hhi := lt_zpow_log2 ha
    rw [expWord_normal hb1 (by omega) hlo hhi, if_neg (word_ne_zero (by omega) (by omega)), if_neg h,
      word_add (by omega), float_word (by omega) (by omega)]
    congr 2; push_cast; omega

/-- The inverse scale made from the exponent word is two to the negated exponent. -/
theorem inv_eq {a : ℝ} (h0 : 0 ≤ a) (h2 : a < 2 ^ (126 : ℤ)) :
    Ideal.ofBits .f32 (invWord (expWord a)) = Ideal.exp2 (0 - refExp a) := by
  rw [refExp_eq, show (0 : EReal) - ((exponent a : ℝ) : EReal) = (((-exponent a : ℤ) : ℝ) : EReal) by push_cast; simp, exp2_int]
  unfold exponent invWord
  by_cases h : a < tiny
  · rw [expWord_small h0 h, if_pos word_zero, if_pos h, float_one]; simp
  · obtain ⟨hb1, hb2⟩ := exponent_bounds h h2
    have ha : 0 < a := tiny_pos.trans_le (not_lt.mp h)
    have hlo := zpow_log2_le ha
    have hhi := lt_zpow_log2 ha
    rw [expWord_normal hb1 (by omega) hlo hhi, if_neg (word_ne_zero (by omega) (by omega)), if_neg h,
      word_sub (by omega), float_word (by omega) (by omega)]
    congr 2; omega

end Cert.Words

end
-- ==== Proof.Codes.lean ====
/-
  Codes and scales as reals: a finite code denotes a real number of bounded magnitude, and a scale word whose low half
  is zero denotes the same number as its high half read as a bf16 word.
-/
module

public import proofs.«01_k».proof.Proof.Words

@[expose] public section

noncomputable section

namespace Cert.Codes

open Idealize.ShloMosaic

/-- A sign has magnitude one. -/
theorem abs_sign (b : Bool) : |(if b then (-1 : ℝ) else 1)| = 1 := by cases b <;> simp

/-- A sign, a significand below `2 ^ k` and a power of two at most `2 ^ n`. -/
theorem abs_le_of (b : Bool) (f : ℕ) (k : ℕ) (z n : ℤ) (hf : f ≤ 2 ^ k) (hz : z ≤ n) :
    |(if b then (-1 : ℝ) else 1) * (f : ℝ) * (2 : ℝ) ^ z| ≤ 2 ^ k * (2 : ℝ) ^ n := by
  rw [abs_mul, abs_mul, abs_sign, one_mul, abs_of_nonneg (by positivity), abs_of_pos (by positivity)]
  exact mul_le_mul (by exact_mod_cast hf) (zpow_le_zpow_right₀ (by norm_num) hz) (by positivity) (by positivity)

/-- A momentum code other than a NaN denotes a real number of magnitude at most `2 ^ 9`. -/
theorem e4m3_real (b : BitVec 8) (h : b.toNat % 128 ≠ 127) :
    ∃ r : ℝ, Ideal.ofBits .fp8e4m3 b = (r : EReal) ∧ |r| ≤ 2 ^ 9 := by
  show ∃ r : ℝ, Ideal.e4m3fn b = (r : EReal) ∧ |r| ≤ 2 ^ 9
  unfold Ideal.e4m3fn
  have hex : (b.extractLsb' 3 4).toNat = b.toNat / 8 % 16 := by
    rw [BitVec.extractLsb'_toNat, Nat.shiftRight_eq_div_pow]
  have hfr : (b.extractLsb' 0 3).toNat = b.toNat % 8 := by
    rw [BitVec.extractLsb'_toNat, Nat.shiftRight_eq_div_pow]; simp
  simp only [hex, hfr]
  rw [if_neg (by omega)]
  split
  · refine ⟨_, rfl, (abs_le_of _ _ 3 _ 0 (by omega) (by norm_num)).trans (by norm_num)⟩
  · refine ⟨_, rfl, (abs_le_of _ _ 4 _ 5 (by omega) (by omega)).trans (by norm_num)⟩

/-- A finite gradient code denotes a real number of magnitude at most `2 ^ 16`. -/
theorem e5m2_real (b : BitVec 8) (h : b.toNat % 128 < 124) :
    ∃ r : ℝ, Ideal.ofBits .fp8e5m2 b = (r : EReal) ∧ |r| ≤ 2 ^ 16 := by
  show ∃ r : ℝ, Ideal.ieee 5 2 b = (r : EReal) ∧ |r| ≤ 2 ^ 16
  unfold Ideal.ieee
  have hex : (b.extractLsb' 2 5).toNat = b.toNat / 4 % 32 := by
    rw [BitVec.extractLsb'_toNat, Nat.shiftRight_eq_div_pow]
  have hfr : (b.extractLsb' 0 2).toNat = b.toNat % 4 := by
    rw [BitVec.extractLsb'_toNat, Nat.shiftRight_eq_div_pow]; simp
  simp only [hex, hfr]
  rw [if_neg (by omega)]
  split
  · refine ⟨_, rfl, (abs_le_of _ _ 2 _ 0 (by omega) (by norm_num)).trans (by norm_num)⟩
  · refine ⟨_, rfl, (abs_le_of _ _ 3 _ 13 (by omega) (by norm_num; omega)).trans (by norm_num)⟩

/-- A scale word of magnitude at most `2 ^ 64` denotes a real number of magnitude at most `2 ^ 65`. -/
theorem scale_real (s : BitVec 32) (h : s.toNat % 2 ^ 31 ≤ 191 * 2 ^ 23) :
    ∃ r : ℝ, Ideal.ofBits .f32 s = (r : EReal) ∧ |r| ≤ 2 ^ 65 := by
  show ∃ r : ℝ, Ideal.ieee 8 23 s = (r : EReal) ∧ |r| ≤ 2 ^ 65
  unfold Ideal.ieee
  have hex : (s.extractLsb' 23 8).toNat = s.toNat / 2 ^ 23 % 256 := by
    rw [BitVec.extractLsb'_toNat, Nat.shiftRight_eq_div_pow]
  have hfr : (s.extractLsb' 0 23).toNat = s.toNat % 2 ^ 23 := by
    rw [BitVec.extractLsb'_toNat, Nat.shiftRight_eq_div_pow]; simp
  simp only [hex, hfr]
  rw [if_neg (by omega)]
  split
  · refine ⟨_, rfl, (abs_le_of _ _ 23 _ 0 (by omega) (by norm_num)).trans (by norm_num)⟩
  · refine ⟨_, rfl, (abs_le_of _ _ 24 _ 41 (by omega) (by norm_num; omega)).trans (by norm_num)⟩

/-- A word with a zero low half denotes, as an f32, what its high half denotes as a bf16. -/
theorem high_half (s : BitVec 32) (h : s.toNat % 2 ^ 16 = 0) :
    Ideal.ofBits .bf16 (s.extractLsb' 16 16) = Ideal.ofBits .f32 s := by
  show Ideal.ieee 8 7 (s.extractLsb' 16 16) = Ideal.ieee 8 23 s
  have hh : (s.extractLsb' 16 16).toNat = s.toNat / 2 ^ 16 := by
    rw [BitVec.extractLsb'_toNat, Nat.shiftRight_eq_div_pow]; omega
  unfold Ideal.ieee
  have hex : (s.extractLsb' 23 8).toNat = s.toNat / 2 ^ 23 % 256 := by
    rw [BitVec.extractLsb'_toNat, Nat.shiftRight_eq_div_pow]
  have hfr : (s.extractLsb' 0 23).toNat = s.toNat % 2 ^ 23 := by
    rw [BitVec.extractLsb'_toNat, Nat.shiftRight_eq_div_pow]; simp
  have hex' : ((s.extractLsb' 16 16).extractLsb' 7 8).toNat = s.toNat / 2 ^ 23 % 256 := by
    rw [BitVec.extractLsb'_toNat, Nat.shiftRight_eq_div_pow, hh]; omega
  have hfr' : ((s.extractLsb' 16 16).extractLsb' 0 7).toNat = s.toNat / 2 ^ 16 % 2 ^ 7 := by
    rw [BitVec.extractLsb'_toNat, Nat.shiftRight_eq_div_pow, hh]; simp
  have hs : ((s.extractLsb' 16 16).extractLsb' (8 + 7) 1 == 1#1) = (s.extractLsb' (8 + 23) 1 == 1#1) := by
    congr 1
    apply BitVec.eq_of_toNat_eq
    rw [BitVec.extractLsb'_toNat, hh, BitVec.extractLsb'_toNat, Nat.shiftRight_eq_div_pow, Nat.shiftRight_eq_div_pow]
    omega
  simp only [hex, hfr, hex', hfr', hs]
  have hq : (s.toNat % 2 ^ 23 : ℕ) = (s.toNat / 2 ^ 16 % 2 ^ 7) * 2 ^ 16 := by omega
  have hzero : (s.toNat % 2 ^ 23 = 0) ↔ (s.toNat / 2 ^ 16 % 2 ^ 7 = 0) := by omega
  simp only [hzero]
  generalize s.toNat / 2 ^ 23 % 256 = E
  have hc : ((s.toNat % 2 ^ 23 : ℕ) : ℝ) = ((s.toNat / 2 ^ 16 % 2 ^ 7 : ℕ) : ℝ) * 2 ^ 16 := by rw [hq]; push_cast; ring
  have hp : ∀ z : ℤ, (2 : ℝ) ^ (z - (7 : ℕ)) = 2 ^ 16 * (2 : ℝ) ^ (z - (23 : ℕ)) := by
    intro z
    rw [show z - ((7 : ℕ) : ℤ) = 16 + (z - ((23 : ℕ) : ℤ)) by push_cast; ring, zpow_add₀ (by norm_num)]
    norm_num
  split
  · rfl
  · split
    · congr 1; rw [hc, hp]; ring
    · congr 1; rw [Nat.cast_add, Nat.cast_add, hc, hp]; push_cast; ring

end Cert.Codes

end
-- ==== Proof.Sum.lean ====
module

public import proofs.«01_k».proof.Proof.Pack
public import proofs.«01_k».proof.Proof.Codes
public import Idealize.ShloMosaic.Lib.BitcastPair

/-! The product of the packed scales and the codes: each row of it is the sum over the ranks of scale times code. -/

@[expose] public section

set_option maxRecDepth 16384

noncomputable section

namespace Cert.Sum

open Cert.KernelIdeal Cert.KernelIdeal.Gen
open Idealize.ShloMosaic Idealize.ShloMosaic.TcCoe
open Idealize.SL Idealize.SL.Sem

/-- The lane's row within its group. -/
theorem lane_row (r : Fin 8) (l : Fin 512) :
    kernelRun0_A.sl.v366 (ix2 r l) = BitVec.ofNat 32 (l.val % 32) := by
  show (kernelRun0_A.sl.v366 (ix2 0 l)) = _
  revert l
  decide

/-- The first mask keeps, of the lanes of a pair of rows, the low half of one row and the high half of the next: rows 0 to 15. -/
theorem first_mask (r : Fin 8) (l : Fin 512) : kernelRun0_A.sl.v384 (ix2 r l) =
    (if l.val % 32 = 2 * r.val then 65535#32 else 0#32) ||| (if l.val % 32 = 2 * r.val + 1 then 4294901760#32 else 0#32) := by
  have small : ∀ (r : Fin 8) (x : Fin 32),
      Scalar.select (IntOp.cmpi .eq (BitVec.ofNat 32 x.val) (kernelRun0_A.sl.v371 (ix2 r 0))) 65535#32 0#32 |||
        Scalar.select (IntOp.cmpi .eq (BitVec.ofNat 32 x.val) (kernelRun0_A.sl.v371 (ix2 r 0) + 1#32)) 4294901760#32 0#32 =
      (if x.val = 2 * r.val then 65535#32 else 0#32) ||| (if x.val = 2 * r.val + 1 then 4294901760#32 else 0#32) := by
    decide
  refine Eq.trans ?_ (small r ⟨l.val % 32, by omega⟩)
  rw [← lane_row r l]
  rfl

/-- The second mask keeps the same for rows 16 to 31. -/
theorem second_mask (r : Fin 8) (l : Fin 512) : kernelRun0_A.sl.v399 (ix2 r l) =
    (if l.val % 32 = 2 * r.val + 16 then 65535#32 else 0#32) |||
      (if l.val % 32 = 2 * r.val + 16 + 1 then 4294901760#32 else 0#32) := by
  have small : ∀ (r : Fin 8) (x : Fin 32),
      Scalar.select (IntOp.cmpi .eq (BitVec.ofNat 32 x.val) (kernelRun0_A.sl.v386 (ix2 r 0))) 65535#32 0#32 |||
        Scalar.select (IntOp.cmpi .eq (BitVec.ofNat 32 x.val) (kernelRun0_A.sl.v386 (ix2 r 0) + 1#32)) 4294901760#32 0#32 =
      (if x.val = 2 * r.val + 16 then 65535#32 else 0#32) |||
        (if x.val = 2 * r.val + 16 + 1 then 4294901760#32 else 0#32) := by
    decide
  refine Eq.trans ?_ (small r ⟨l.val % 32, by omega⟩)
  rw [← lane_row r l]
  rfl

/-- The low half of a word whose low half is kept. -/
theorem low_half (w : BitVec 32) : (w &&& (65535#32 ||| 0#32)).extractLsb' 0 16 = w.extractLsb' 0 16 := by
  apply BitVec.eq_of_getLsbD_eq
  intro i hi
  interval_cases i <;> simp

/-- The high half of a word whose high half is kept. -/
theorem high_half (w : BitVec 32) : (w &&& (0#32 ||| 4294901760#32)).extractLsb' 16 16 = w.extractLsb' 16 16 := by
  apply BitVec.eq_of_getLsbD_eq
  intro i hi
  interval_cases i <;> simp

/-- The low half of a word whose high half alone is kept is zero. -/
theorem low_none (w : BitVec 32) : (w &&& (0#32 ||| 4294901760#32)).extractLsb' 0 16 = 0#16 := by
  apply BitVec.eq_of_getLsbD_eq
  intro i hi
  interval_cases i <;> simp

/-- The high half of a word whose low half alone is kept is zero. -/
theorem high_none (w : BitVec 32) : (w &&& (65535#32 ||| 0#32)).extractLsb' 16 16 = 0#16 := by
  apply BitVec.eq_of_getLsbD_eq
  intro i hi
  interval_cases i <;> simp

/-- A masked word's half: the mask of row `r` keeps, of the two halves, the one whose number is the lane's row. -/
theorem kept (w : BitVec 32) (x n r : ℕ) :
    (w &&& ((if x = 2 * (r / 2) + n then 65535#32 else 0#32) |||
        (if x = 2 * (r / 2) + n + 1 then 4294901760#32 else 0#32))).extractLsb' (16 * (r % 2)) 16 =
      if x = r + n then w.extractLsb' (16 * (r % 2)) 16 else 0#16 := by
  rcases Nat.mod_two_eq_zero_or_one r with hr | hr
  · rw [hr]
    by_cases h0 : x = 2 * (r / 2) + n
    · rw [if_pos h0, if_neg (by omega), if_pos (by omega), low_half]
    · rw [if_neg h0, if_neg (c := x = r + n) (by omega)]
      by_cases h1 : x = 2 * (r / 2) + n + 1
      · rw [if_pos h1, low_none]
      · rw [if_neg h1]
        simp
  · rw [hr]
    by_cases h0 : x = 2 * (r / 2) + n + 1
    · rw [if_pos h0, if_neg (by omega), if_pos (by omega), high_half]
    · rw [if_neg h0, if_neg (c := x = r + n) (by omega)]
      by_cases h1 : x = 2 * (r / 2) + n
      · rw [if_pos h1, high_none]
      · rw [if_neg h1]
        simp

/-- A half word of sixteen rows of the product's left operand. -/
theorem half_apply (n : ℕ) (mask : IVec S8x512 32)
    (hm : ∀ (r : Fin 8) (l : Fin 512), mask (ix2 r l) =
      (if l.val % 32 = 2 * r.val + n then 65535#32 else 0#32) ||| (if l.val % 32 = 2 * r.val + n + 1 then 4294901760#32 else 0#32))
    (w : IVec S1x1x512 32) (r : Fin 16) (l : Fin 512) :
    bitcast S16x512 16 (andi (broadcastTo S8x512 (shapeCast S1x512 w shapeCasts_S1x1x512_S1x512) broadcasts_S1x512_S8x512) mask)
        bitcasts_S8x512_w32_S16x512_w16 (ix2 r l) =
      if l.val % 32 = r.val + n then (w (ix3 0 0 l)).extractLsb' (16 * (r.val % 2)) 16 else 0#16 := by
  rw [bitcast_32_16]
  have hrow : S16x512.row (ix2 r l) = r.val := rfl
  rw [← kept, ← hm ⟨r.val / 2, by omega⟩ l]
  have hs : ∀ hp, bitcasts_S8x512_w32_S16x512_w16.srcIdx (ix2 r l) (S16x512.row (ix2 r l) / 2) hp =
      (ix2 (⟨r.val / 2, by omega⟩ : Fin 8) l : S8x512.Idx) := by
    intro hp
    funext a
    fin_cases a
    · exact Fin.ext (Shape.Bitcasts.srcIdx_row _ _ _ hp 0 rfl)
    · exact Fin.ext (Shape.Bitcasts.srcIdx_other _ _ _ hp 1 (by decide))
  rw [hs]
  have hw : broadcastTo S8x512 (shapeCast S1x512 w shapeCasts_S1x1x512_S1x512) broadcasts_S1x512_S8x512
      (ix2 (⟨r.val / 2, by omega⟩ : Fin 8) l) = w (ix3 0 0 l) := by
    pointwise
  rw [← hw]
  rfl

/-- Either half of a doubled word whose low half is zero is its high half. -/
theorem doubled_half (w : BitVec 32) (h : w.toNat % 2 ^ 16 = 0) (k : ℕ) (hk : k < 2) :
    (Pack.doubled w).extractLsb' (16 * k) 16 = w.extractLsb' 16 16 := by
  have low : ∀ i, i < 16 → w.getLsbD i = false := by
    intro i hi
    have h' : (w.toNat % 2 ^ 16).testBit i = false := by rw [h]; exact Nat.zero_testBit i
    rw [Nat.testBit_mod_two_pow] at h'
    simpa [hi, BitVec.getLsbD] using h'
  apply BitVec.eq_of_getLsbD_eq
  intro i hi
  unfold Pack.doubled
  rw [BitVec.getLsbD_extractLsb', BitVec.getLsbD_extractLsb', BitVec.getLsbD_or, BitVec.getLsbD_ushiftRight]
  interval_cases k
  · simp [hi, low i hi]
  · have : w.getLsbD (16 + (16 + i)) = false := BitVec.getLsbD_of_ge _ _ (by omega)
    simp [hi, this]

/-- Sixteen rows of the product's left operand, as floats. -/
def half (mask : IVec S8x512 32) (w : IVec S1x1x512 32) (r : Fin 16) (l : Fin 512) : EReal :=
  Ideal.ofBits .bf16 (bitcast S16x512 16
    (andi (broadcastTo S8x512 (shapeCast S1x512 w shapeCasts_S1x1x512_S1x512) broadcasts_S1x512_S8x512) mask)
    bitcasts_S8x512_w32_S16x512_w16 (ix2 r l))

/-- The product's left operand. -/
def left (m0 m1 : IVec S8x512 32) (w0 w1 : IVec S1x1x512 32) (i : Fin 64) (l : Fin 512) : EReal :=
  if h : i.val < 16 then half m0 w0 ⟨i.val, h⟩ l
  else if h : i.val - 16 < 16 then half m1 w0 ⟨i.val - 16, h⟩ l
  else if h : i.val - 16 - 16 < 16 then half m0 w1 ⟨i.val - 16 - 16, h⟩ l
  else half m1 w1 ⟨i.val - 16 - 16 - 16, by omega⟩ l

/-- The product at a row and a column. -/
theorem product_apply (m0 m1 : IVec S8x512 32) (w0 w1 : Vec Ideal S1x1x512 .i32) (codes : Vec Ideal S16x32x256 .fp8e5m2)
    (i : Fin 64) (col : Fin 256) :
    k0_pay56 (F := Ideal) m0 m1 w0 w1 codes (ix2 i col) =
      ∑ l : Fin 512, left m0 m1 w0 w1 i l * codes (ix3 ⟨l.val / 32, by omega⟩ ⟨l.val % 32, by omega⟩ col) := by
  pointwise [k0_pay56]
  rfl

section
variable (c : Dev nD) (arg2 : Memref sig .tc .vmem S16x128x1024 .fp8e5m2) (harg2 : arg2.IsWhole)
  (arg3 : Memref sig .tc .vmem S16x8x128 .i32) (harg3 : arg3.IsWhole)
  (arg15 : Memref sig .tc .vmem S4x8x512 .i32)
  (x0 : Vec Ideal S16x128x1024 .fp8e5m2) (x1 : Vec Ideal S16x8x128 .i32)

/-- The scale of a rank, a block and a row of the tile. -/
def scale (p : Fin 16) (b : Fin 8) (r : Fin 128) : EReal := Ideal.ofBits .f32 (x1 (ix3 p b r))

/-- The product's left operand at a row: the scales of the row, one rank to a group of lanes, zero off the diagonal. -/
theorem left_apply (h : ∀ (p : Fin 16) (b : Fin 8) (r : Fin 128), (x1 (ix3 p b r)).toNat % 2 ^ 16 = 0)
    (q : Fin 4) (b : Fin 8) (n : ℕ) (hn : n ≤ 16) (mask : IVec S8x512 32)
    (hm : ∀ (r : Fin 8) (l : Fin 512), mask (ix2 r l) =
      (if l.val % 32 = 2 * r.val + n then 65535#32 else 0#32) ||| (if l.val % 32 = 2 * r.val + n + 1 then 4294901760#32 else 0#32))
    (r : Fin 16) (l : Fin 512) :
    half mask (Unit.words (F := Ideal) c arg3 harg3 arg15 x1 q b) r l =
      if l.val % 32 = r.val + n then scale x1 ⟨l.val / 32, by omega⟩ b ⟨32 * q.val + l.val % 32, by omega⟩ else 0 := by
  unfold half
  rw [half_apply n mask hm, Pack.words_apply]
  by_cases hl : l.val % 32 = r.val + n
  · rw [if_pos hl, if_pos hl, doubled_half _ (h _ _ _) _ (Nat.mod_lt _ (by decide)), Codes.high_half _ (h _ _ _)]
    rfl
  · rw [if_neg hl, if_neg hl]
    simp [Ideal.ofBits_zero]

/-- A sum over the lanes that keeps one row of each group is the sum over the groups at that row. -/
theorem diagonal (i : Fin 32) (f : Fin 16 → Fin 32 → EReal) (g : Fin 512 → EReal)
    (hg : ∀ (p : Fin 16) (r : Fin 32), g ⟨32 * p.val + r.val, by omega⟩ = if r = i then f p r else 0) :
    ∑ l : Fin 512, g l = ∑ p : Fin 16, f p i := by
  have e := (Equiv.sum_comp (finProdFinEquiv (m := 16) (n := 32)) g).symm
  refine e.trans ?_
  rw [Fintype.sum_prod_type]
  refine Finset.sum_congr rfl fun p _ => ?_
  have hgp : ∀ r : Fin 32, g (finProdFinEquiv (p, r)) = if r = i then f p r else 0 := by
    intro r
    rw [← hg]
    exact congrArg g (Fin.ext (by simp [finProdFinEquiv]; omega))
  simp only [hgp]
  simp

/-- The pair's block numbered `e`. -/
def pick (u : Fin 4 × Fin 8) (e : Fin 2) : Fin 8 := ⟨2 * (u.2.val / 2) + e.val, by omega⟩

/-- A row of the unit's product. -/
theorem sums_apply (h : ∀ (p : Fin 16) (b : Fin 8) (r : Fin 128), (x1 (ix3 p b r)).toNat % 2 ^ 16 = 0)
    (u : Fin 4 × Fin 8) (e : Fin 2) (i : Fin 32) (col : Fin 256) :
    Unit.sums (F := Ideal) c arg2 harg2 arg3 harg3 arg15 x0 x1 u (ix2 ⟨32 * e.val + i.val, by omega⟩ col) =
      ∑ p : Fin 16, scale x1 p (pick u e) ⟨32 * u.1.val + i.val, by omega⟩ *
        x0 (ix3 p ⟨32 * u.1.val + i.val, by omega⟩ ⟨256 * (u.2.val / 2) + col.val, by omega⟩) := by
  unfold Unit.sums
  rw [product_apply]
  have hcode : ∀ (p : Fin 16) (r : Fin 32) (col : Fin 256), View.readAt (Elt Ideal) arg2.view
      (Rect.unit (s := S16x128x1024) ![0, 32 * u.1.val, 256 * (u.2.val / 2)] S16x32x256.size (Unit.codes_inb u)).toLoadRect
      (harg2.unread x0) (ix3 p r col) =
      x0 (ix3 p ⟨32 * u.1.val + r.val, by omega⟩ ⟨256 * (u.2.val / 2) + col.val, by omega⟩) := by
    intro p r col
    refine Unit.load_apply _ _ _ _ _ _ _ _ fun d => ?_
    fin_cases d
    · show p.val = 0 + p.val
      omega
    · rfl
    · rfl
  refine diagonal i (fun p r => scale x1 p (pick u e) ⟨32 * u.1.val + r.val, by omega⟩ *
        x0 (ix3 p ⟨32 * u.1.val + r.val, by omega⟩ ⟨256 * (u.2.val / 2) + col.val, by omega⟩)) _ fun p r => ?_
  have hp : (32 * p.val + r.val) / 32 = p.val := by omega
  have hr : (32 * p.val + r.val) % 32 = r.val := by omega
  have hpe : (⟨(32 * p.val + r.val) / 32, by omega⟩ : Fin 16) = p := Fin.ext hp
  have hre : (⟨(32 * p.val + r.val) % 32, by omega⟩ : Fin 32) = r := Fin.ext hr
  have key : ∀ (b : Fin 8) (n : ℕ) (hn : n ≤ 16) (mask : IVec S8x512 32) (hm : ∀ (r : Fin 8) (l : Fin 512), mask (ix2 r l) =
      (if l.val % 32 = 2 * r.val + n then 65535#32 else 0#32) ||| (if l.val % 32 = 2 * r.val + n + 1 then 4294901760#32 else 0#32))
      (k : Fin 16), i.val = k.val + n → b = pick u e →
      half mask (Unit.words (F := Ideal) c arg3 harg3 arg15 x1 u.1 b) k ⟨32 * p.val + r.val, by omega⟩ =
        if r = i then scale x1 p (pick u e) ⟨32 * u.1.val + r.val, by omega⟩ else 0 := by
    intro b n hn mask hm k hk hb
    subst hb
    rw [left_apply c arg3 harg3 arg15 x1 h u.1 _ n hn mask hm]
    by_cases hri : r = i
    · rw [if_pos (by rw [← hk, ← hri]; exact hr), if_pos hri]
      exact congrArg₂ (fun a b => scale x1 a (pick u e) b) hpe (Fin.ext (by simp only; omega))
    · rw [if_neg (fun hc => hri (Fin.ext (by simp only at hc; omega))), if_neg hri]
  have hleft : left kernelRun0_A.sl.v384 kernelRun0_A.sl.v399 (Unit.words (F := Ideal) c arg3 harg3 arg15 x1 u.1 (Unit.evenOf u.2))
      (Unit.words (F := Ideal) c arg3 harg3 arg15 x1 u.1 (Unit.oddOf u.2)) ⟨32 * e.val + i.val, by omega⟩
      ⟨32 * p.val + r.val, by omega⟩ = if r = i then scale x1 p (pick u e) ⟨32 * u.1.val + r.val, by omega⟩ else 0 := by
    unfold left
    simp only
    split
    · exact key _ 0 (by omega) _ first_mask _ (by simp only; omega) (Fin.ext (by simp only [Unit.evenOf, pick]; omega))
    · split
      · exact key _ 16 (by omega) _ second_mask _ (by simp only; omega) (Fin.ext (by simp only [Unit.evenOf, pick]; omega))
      · split
        · exact key _ 0 (by omega) _ first_mask _ (by simp only; omega) (Fin.ext (by simp only [Unit.oddOf, pick]; omega))
        · exact key _ 16 (by omega) _ second_mask _ (by simp only; omega) (Fin.ext (by simp only [Unit.oddOf, pick]; omega))
  rw [hleft, hcode, hpe, hre]
  by_cases hri : r = i
  · rw [if_pos hri, if_pos hri]
  · rw [if_neg hri, if_neg hri, zero_mul]

/-- The unit's sums over the ranks. -/
theorem total_apply (h : ∀ (p : Fin 16) (b : Fin 8) (r : Fin 128), (x1 (ix3 p b r)).toNat % 2 ^ 16 = 0)
    (u : Fin 4 × Fin 8) (i : Fin 32) (j : Fin 128) :
    Unit.total u (Unit.sums (F := Ideal) c arg2 harg2 arg3 harg3 arg15 x0 x1 u) (ix2 i j) =
      ∑ p : Fin 16, scale x1 p u.2 ⟨32 * u.1.val + i.val, by omega⟩ *
        x0 (ix3 p ⟨32 * u.1.val + i.val, by omega⟩ ⟨128 * u.2.val + j.val, by omega⟩) := by
  unfold Unit.total
  refine (extractStridedSlice_apply _ _ _ _ (ix2 (⟨32 * (u.2.val % 2) + i.val, by omega⟩ : Fin 64)
    (⟨128 * (u.2.val % 2) + j.val, by omega⟩ : Fin 256)) fun d => ?_).trans ?_
  · fin_cases d
    · rfl
    · rfl
  · refine (sums_apply c arg2 harg2 arg3 harg3 arg15 x0 x1 h u ⟨u.2.val % 2, by omega⟩ i
      ⟨128 * (u.2.val % 2) + j.val, by omega⟩).trans ?_
    have hb : pick u ⟨u.2.val % 2, by omega⟩ = u.2 := Fin.ext (by simp only [pick]; omega)
    have hj : (⟨256 * (u.2.val / 2) + (128 * (u.2.val % 2) + j.val), by omega⟩ : Fin 1024) = ⟨128 * u.2.val + j.val, by omega⟩ :=
      Fin.ext (by simp only; omega)
    rw [hb]
    simp only [hj]

end

end Cert.Sum
-- ==== Proof.Step.lean ====
/-
  One element of the step. The kernel folds the averaging over ranks, the bias corrections and the learning rate into
  its constants and takes the root through a reciprocal root; the reference writes the step as it is defined. Here are
  the two forms on extended reals and, at finite inputs with a normal second moment, the real number that both are.
-/
module

public import proofs.«01_k».proof.Proof.Words

@[expose] public section

noncomputable section

namespace Cert.Step

open Idealize.ShloMosaic Cert.Words

/-- The kernel's new momentum from a momentum code, its block scale and the sum over ranks. -/
def kM (mc ms t : EReal) : EReal := mc * (ms * ((9 / 10 : ℝ) : EReal)) + t * ((1 / 160 : ℝ) : EReal)

/-- The kernel's new second moment. -/
def kV (v t : EReal) : EReal := ((19 / 20 : ℝ) : EReal) * v + ((1 / 5120 : ℝ) : EReal) * (t * t)

/-- The kernel's bias-corrected second moment. -/
def kVhat (v : EReal) : EReal := v * ((104857600000000000000000000 / 67267626542454041806644399 : ℝ) : EReal)

/-- The kernel's update. -/
def kU (m v w : EReal) : EReal :=
  Ideal.div (m * ((1000000000000000000 / 87842334540943071199 : ℝ) : EReal))
      (kVhat v * Ideal.rsqrt (max (kVhat v) (Ideal.ofBits .f32 0x00800000#32)) + ((1 / 100000000 : ℝ) : EReal))
    + ((1 / 1000 : ℝ) : EReal) * w

/-- The reference's mean gradient from the sum over ranks. -/
def rG (t : EReal) : EReal := Ideal.div t (Ideal.ofBits .f32 0x41800000#32)

/-- The reference's new momentum. -/
def rM (mc ms g : EReal) : EReal := ((9 / 10 : ℝ) : EReal) * (mc * ms) + ((1 / 10 : ℝ) : EReal) * g

/-- The reference's new second moment. -/
def rV (v g : EReal) : EReal := ((19 / 20 : ℝ) : EReal) * v + ((1 / 20 : ℝ) : EReal) * (g * g)

/-- The reference's update. -/
def rU (m v w : EReal) : EReal :=
  ((1 / 100 : ℝ) : EReal) * (Ideal.div (Ideal.div m ((87842334540943071199 / 100000000000000000000 : ℝ) : EReal))
      (Ideal.sqrt (Ideal.div v ((67267626542454041806644399 / 104857600000000000000000000 : ℝ) : EReal)) + ((1 / 100000000 : ℝ) : EReal))
    + ((1 / 10 : ℝ) : EReal) * w)

/-- The new momentum. -/
def M (mc ms t : ℝ) : ℝ := 9 / 10 * (mc * ms) + t / 160

/-- The new second moment. -/
def V (v t : ℝ) : ℝ := 19 / 20 * v + t ^ 2 / 5120

/-- The update's denominator. -/
def D (v : ℝ) : ℝ := Real.sqrt (v * (104857600000000000000000000 / 67267626542454041806644399)) + 1 / 100000000

/-- The update. -/
def U (m v w : ℝ) : ℝ := m * (1000000000000000000 / 87842334540943071199) / D v + w / 1000

/-- The quotient of reals, the divisor not zero, is real. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul]; rfl

/-- The word of sixteen. -/
theorem sixteen : Ideal.ofBits .f32 0x41800000#32 = ((16 : ℝ) : EReal) := by
  have := float_word (E := 131) (by norm_num) (by norm_num)
  rw [show Ideal.ofBits .f32 0x41800000#32 = _ from this]; norm_num

/-- The reference's mean of a real sum. -/
theorem rG_real (t : ℝ) : rG t = ((t / 16 : ℝ) : EReal) := by
  unfold rG; rw [sixteen, div_real _ _ (by norm_num)]

/-- The kernel's new first moment of reals. -/
theorem kM_real (mc ms t : ℝ) : kM mc ms t = ((M mc ms t : ℝ) : EReal) := by
  unfold kM M; norm_cast; ring

/-- The reference's new first moment of reals is the same. -/
theorem rM_real (mc ms t : ℝ) : rM mc ms (rG t) = ((M mc ms t : ℝ) : EReal) := by
  rw [rG_real]; unfold rM M; norm_cast; ring

/-- The kernel's new second moment of reals. -/
theorem kV_real (v t : ℝ) : kV v t = ((V v t : ℝ) : EReal) := by
  unfold kV V; norm_cast; ring

/-- The reference's new second moment of reals is the same. -/
theorem rV_real (v t : ℝ) : rV v (rG t) = ((V v t : ℝ) : EReal) := by
  rw [rG_real]; unfold rV V; norm_cast; ring

/-- The new second moment is at least 0.95 of the old one. -/
theorem V_ge {v t : ℝ} : 19 / 20 * v ≤ V v t := by
  unfold V; have := sq_nonneg t; linarith

/-- The denominator is at least epsilon. -/
theorem D_pos (v : ℝ) : 1 / 100000000 ≤ D v := by
  unfold D; have := Real.sqrt_nonneg (v * (104857600000000000000000000 / 67267626542454041806644399)); linarith

/-- The denominator is not zero. -/
theorem D_ne (v : ℝ) : D v ≠ 0 := by have := D_pos v; intro h; linarith

/-- The root of a real that is not negative. -/
theorem sqrt_real {r : ℝ} (h : 0 ≤ r) : Ideal.sqrt (r : EReal) = ((Real.sqrt r : ℝ) : EReal) := by
  show (if r < 0 then (⊥ : EReal) else _) = _
  rw [if_neg (not_lt.mpr h)]

/-- The reciprocal root of a positive real. -/
theorem rsqrt_real {r : ℝ} (h : 0 < r) : Ideal.rsqrt (r : EReal) = (((Real.sqrt r)⁻¹ : ℝ) : EReal) := by
  show (if r < 0 then (⊥ : EReal) else if r = 0 then ⊤ else _) = _
  rw [if_neg (not_lt.mpr h.le), if_neg h.ne']

/-- A normal number times its reciprocal root is its root. -/
theorem root_real {r : ℝ} (h : tiny ≤ r) :
    (r : EReal) * Ideal.rsqrt (max (r : EReal) (Ideal.ofBits .f32 0x00800000#32)) = ((Real.sqrt r : ℝ) : EReal) := by
  have hr : 0 < r := tiny_pos.trans_le h
  rw [float_tiny, max_eq_left (by exact_mod_cast h), rsqrt_real hr, ← EReal.coe_mul]
  congr 1
  have := Real.sqrt_pos.mpr hr
  nth_rewrite 1 [← Real.mul_self_sqrt hr.le]
  field_simp

/-- The kernel's update of reals, the second moment not far below the smallest normal. -/
theorem kU_real {m v w : ℝ} (h : 19 / 20 * tiny ≤ v) : kU m v w = ((U m v w : ℝ) : EReal) := by
  have ht := tiny_pos
  unfold kU kVhat
  rw [← EReal.coe_mul, ← EReal.coe_mul, root_real (by nlinarith), ← EReal.coe_add]
  rw [show Real.sqrt (v * (104857600000000000000000000 / 67267626542454041806644399)) + 1 / 100000000 = D v from rfl,
    div_real _ _ (D_ne v)]
  unfold U; norm_cast; ring_nf

/-- The reference's update of reals is the same. -/
theorem rU_real {m v w : ℝ} (h : 0 ≤ v) : rU m v w = ((U m v w : ℝ) : EReal) := by
  unfold rU
  rw [div_real _ _ (by norm_num), div_real _ _ (by norm_num), sqrt_real (by positivity), ← EReal.coe_add]
  rw [show Real.sqrt (v / (67267626542454041806644399 / 104857600000000000000000000)) + 1 / 100000000 = D v by
    unfold D; congr 2; ring, div_real _ _ (D_ne v)]
  unfold U
  norm_cast
  have := D_ne v
  field_simp
  ring

/-- The new first moment is bounded. -/
theorem M_bound {mc ms t : ℝ} (h1 : |mc| ≤ 2 ^ 9) (h2 : |ms| ≤ 2 ^ 64) (h3 : |t| ≤ 2 ^ 85) : |M mc ms t| ≤ 2 ^ 80 := by
  unfold M
  have h12 : |mc * ms| ≤ 2 ^ 9 * 2 ^ 64 := by
    rw [abs_mul]; exact mul_le_mul h1 h2 (abs_nonneg _) (by norm_num)
  rw [abs_le] at h12 h3 ⊢
  constructor <;> linarith [h12.1, h12.2, h3.1, h3.2]

/-- The update is bounded. -/
theorem U_bound {m v w : ℝ} (h1 : |m| ≤ 2 ^ 80) (h2 : |w| ≤ 2 ^ 64) : |U m v w| ≤ 2 ^ 108 := by
  unfold U
  have hd := D_pos v
  have hd0 : 0 < D v := by linarith
  have h3 : |m * (1000000000000000000 / 87842334540943071199) / D v| ≤ 2 ^ 107 := by
    rw [abs_div, abs_of_pos hd0, div_le_iff₀ hd0, abs_mul, abs_of_pos (show (0 : ℝ) < 1000000000000000000 / 87842334540943071199 by norm_num)]
    nlinarith
  rw [abs_le] at h2 h3 ⊢
  constructor <;> linarith [h2.1, h2.2, h3.1, h3.2]

/-- The new weight is bounded. -/
theorem W_bound {m v w : ℝ} (h1 : |m| ≤ 2 ^ 80) (h2 : |w| ≤ 2 ^ 64) : |w - U m v w| ≤ 2 ^ 109 := by
  have h := U_bound (v := v) h1 h2
  rw [abs_le] at h2 h ⊢
  constructor <;> linarith [h2.1, h2.2, h.1, h.2]

end Cert.Step

end
-- ==== Proof.Data.lean ====
module

public import proofs.«01_k».proof.Proof.Step

/-! The step on whole arrays of extended reals, as the kernel forms it and as the reference states it, and that the two
agree on finite operands whose second moments are normal. The rows, columns and blocks are of any types, so that a tile
and the whole array are read by the same functions. -/

@[expose] public section

noncomputable section

namespace Cert.Data

open Idealize.ShloMosaic Cert.Words Cert.Step

/-- The greatest magnitude of a block. -/
def amax (f : Fin 128 → EReal) : EReal :=
  Finset.univ.fold max (Ideal.ofBits .f32 0xFF800000#32) fun k => max (f k) (-f k)

/-- The block's magnitude the scale is chosen from. -/
def unitOf (f : Fin 128 → EReal) : EReal := amax f * ((1 / 448 : ℝ) : EReal)

/-- A value times its inverse scale, clipped to the codes' range. -/
def clip (x y : EReal) : EReal :=
  min (Ideal.ofBits .f32 0x43E00000#32) (max (Ideal.ofBits .f32 0xC3E00000#32) (x * y))

/-- The step's operands, as extended reals: rows `α`, columns `β`, blocks of columns `γ`. -/
structure Operands (α β γ : Type) where
  code : Fin 16 → α → β → EReal
  scale : Fin 16 → γ → α → EReal
  master : α → β → EReal
  mcode : α → β → EReal
  mscale : γ → α → EReal
  second : α → β → EReal

/-- How the columns fall into blocks. -/
structure Blocks (β γ : Type) where
  block : β → γ
  column : γ → Fin 128 → β

variable {α β γ : Type} (d : Operands α β γ) (g : Blocks β γ)

/-! ## As the kernel forms it -/

/-- The kernel's sum over the ranks. -/
def kSum (r : α) (c : β) : EReal := ∑ p : Fin 16, d.scale p (g.block c) r * d.code p r c
/-- The kernel's new first moment. -/
def kMom (r : α) (c : β) : EReal := kM (d.mcode r c) (d.mscale (g.block c) r) (kSum d g r c)
/-- The kernel's new second moment. -/
def kSec (r : α) (c : β) : EReal := kV (d.second r c) (kSum d g r c)
/-- The kernel's update. -/
def kUpd (r : α) (c : β) : EReal := kU (kMom d g r c) (kSec d g r c) (d.master r c)
/-- The kernel's new weights. -/
def kNew (r : α) (c : β) : EReal := d.master r c - kUpd d g r c
/-- The kernel's codes of an array. -/
def kCodes (f : α → β → EReal) (r : α) (c : β) : EReal :=
  clip (f r c) (Ideal.ofBits .f32 (invWord (expWord (unitOf fun k => f r (g.column (g.block c) k)))))
/-- The kernel's scales of an array. -/
def kScales (f : α → β → EReal) (b : γ) (r : α) : EReal :=
  Ideal.ofBits .f32 (scaleWord (expWord (unitOf fun k => f r (g.column b k))))

/-! ## As the reference states it -/

/-- The reference's sum over the ranks. -/
def rSum (r : α) (c : β) : EReal := ∑ p : Fin 16, d.code p r c * d.scale p (g.block c) r
/-- The reference's new first moment. -/
def rMom (r : α) (c : β) : EReal := rM (d.mcode r c) (d.mscale (g.block c) r) (rG (rSum d g r c))
/-- The reference's new second moment. -/
def rSec (r : α) (c : β) : EReal := rV (d.second r c) (rG (rSum d g r c))
/-- The reference's update. -/
def rUpd (r : α) (c : β) : EReal := rU (rMom d g r c) (rSec d g r c) (d.master r c)
/-- The reference's new weights. -/
def rNew (r : α) (c : β) : EReal := d.master r c - rUpd d g r c
/-- The reference's codes of an array. -/
def rCodes (f : α → β → EReal) (r : α) (c : β) : EReal :=
  clip (f r c) (Ideal.exp2 (0 - refExp (unitOf fun k => f r (g.column (g.block c) k))))
/-- The reference's scales of an array. -/
def rScales (f : α → β → EReal) (b : γ) (r : α) : EReal := Ideal.exp2 (refExp (unitOf fun k => f r (g.column b k)))

/-! ## A part of an array -/

/-- The operands of a part: its rows, columns and blocks are some of the whole's. -/
def Operands.part {α' β' γ' : Type} (d : Operands α' β' γ') (row : α → α') (col : β → β') (blk : γ → γ') : Operands α β γ where
  code p r c := d.code p (row r) (col c)
  scale p b r := d.scale p (blk b) (row r)
  master r c := d.master (row r) (col c)
  mcode r c := d.mcode (row r) (col c)
  mscale b r := d.mscale (blk b) (row r)
  second r c := d.second (row r) (col c)

section
variable {α' β' γ' : Type} (D : Operands α' β' γ') (G : Blocks β' γ') (row : α → α') (col : β → β') (blk : γ → γ')

/-- The part's new first moments are the whole's. -/
theorem kMom_part (hb : ∀ c, G.block (col c) = blk (g.block c)) (r : α) (c : β) :
    kMom (D.part row col blk) g r c = kMom D G (row r) (col c) := by
  simp only [kMom, kSum, hb]
  rfl
/-- The part's new second moments are the whole's. -/
theorem kSec_part (hb : ∀ c, G.block (col c) = blk (g.block c)) (r : α) (c : β) :
    kSec (D.part row col blk) g r c = kSec D G (row r) (col c) := by
  simp only [kSec, kSum, hb]
  rfl
/-- The part's updates are the whole's. -/
theorem kUpd_part (hb : ∀ c, G.block (col c) = blk (g.block c)) (r : α) (c : β) :
    kUpd (D.part row col blk) g r c = kUpd D G (row r) (col c) := by
  unfold kUpd
  rw [kMom_part g D G row col blk hb, kSec_part g D G row col blk hb]
  rfl
/-- The part's new weights are the whole's. -/
theorem kNew_part (hb : ∀ c, G.block (col c) = blk (g.block c)) (r : α) (c : β) :
    kNew (D.part row col blk) g r c = kNew D G (row r) (col c) := by
  unfold kNew
  rw [kUpd_part g D G row col blk hb]
  rfl
/-- The part's codes are the whole's. -/
theorem kCodes_part (hb : ∀ c, G.block (col c) = blk (g.block c)) (hc : ∀ b k, G.column (blk b) k = col (g.column b k))
    (f : α → β → EReal) (F : α' → β' → EReal) (hf : ∀ r c, f r c = F (row r) (col c)) (r : α) (c : β) :
    kCodes g f r c = kCodes G F (row r) (col c) := by
  simp only [kCodes, hf, hb, hc]
/-- The part's scales are the whole's. -/
theorem kScales_part (hc : ∀ b k, G.column (blk b) k = col (g.column b k))
    (f : α → β → EReal) (F : α' → β' → EReal) (hf : ∀ r c, f r c = F (row r) (col c)) (b : γ) (r : α) :
    kScales g f b r = kScales G F (blk b) (row r) := by
  simp only [kScales, hf, hc]
end

/-! ## The two agree -/

/-- An extended real that is a real number of magnitude at most `B`. -/
def Within (B : ℝ) (x : EReal) : Prop := ∃ r : ℝ, x = (r : EReal) ∧ |r| ≤ B

/-- Operands in range. -/
structure Operands.InRange : Prop where
  code : ∀ p r c, Within (2 ^ 16) (d.code p r c)
  scale : ∀ p b r, Within (2 ^ 65) (d.scale p b r)
  master : ∀ r c, Within (2 ^ 64) (d.master r c)
  mcode : ∀ r c, Within (2 ^ 9) (d.mcode r c)
  mscale : ∀ b r, Within (2 ^ 64) (d.mscale b r)
  second : ∀ r c, ∃ v : ℝ, d.second r c = (v : EReal) ∧ tiny ≤ v

/-- A sum of reals, as extended reals, is the real sum. -/
theorem coe_sum {n : ℕ} (f : Fin n → ℝ) : ∑ p, ((f p : ℝ) : EReal) = ((∑ p, f p : ℝ) : EReal) := by
  induction n with
  | zero => simp
  | succ n ih => rw [Fin.sum_univ_succ, Fin.sum_univ_succ, ih, EReal.coe_add]

variable {d}

/-- The kernel's sum is a real number in range, and the reference's. -/
theorem sum_real (h : d.InRange) (r : α) (c : β) :
    ∃ t : ℝ, kSum d g r c = (t : EReal) ∧ rSum d g r c = (t : EReal) ∧ |t| ≤ 2 ^ 85 := by
  choose x hx hxb using fun p => h.code p r c
  choose y hy hyb using fun p => h.scale p (g.block c) r
  refine ⟨∑ p, y p * x p, ?_, ?_, ?_⟩
  · unfold kSum
    rw [← coe_sum]
    exact Finset.sum_congr rfl fun p _ => by rw [hx, hy, EReal.coe_mul]
  · unfold rSum
    rw [← coe_sum]
    exact Finset.sum_congr rfl fun p _ => by rw [hx, hy, mul_comm, EReal.coe_mul]
  · refine (Finset.abs_sum_le_sum_abs _ _).trans ?_
    refine (Finset.sum_le_sum (g := fun _ => (2 : ℝ) ^ 65 * 2 ^ 16) fun p _ => ?_).trans ?_
    · rw [abs_mul]
      exact mul_le_mul (hyb p) (hxb p) (abs_nonneg _) (by norm_num)
    · simp
      norm_num

/-- The element of the step, as reals. -/
theorem element (h : d.InRange) (r : α) (c : β) : ∃ m v w t : ℝ, kMom d g r c = (m : EReal) ∧ rMom d g r c = (m : EReal) ∧
    |m| ≤ 2 ^ 80 ∧ kSec d g r c = (V v t : EReal) ∧ rSec d g r c = (V v t : EReal) ∧ 0 < v ∧
    d.master r c = (w : EReal) ∧ |w| ≤ 2 ^ 64 ∧
    kUpd d g r c = (U m (V v t) w : EReal) ∧ rUpd d g r c = (U m (V v t) w : EReal) := by
  obtain ⟨t, hk, hr, ht⟩ := sum_real g h r c
  obtain ⟨mc, hmc, hmcb⟩ := h.mcode r c
  obtain ⟨ms, hms, hmsb⟩ := h.mscale (g.block c) r
  obtain ⟨w, hw, hwb⟩ := h.master r c
  obtain ⟨v, hv, hvb⟩ := h.second r c
  have h1 : kMom d g r c = (M mc ms t : EReal) := by unfold kMom; rw [hmc, hms, hk, kM_real]
  have h2 : rMom d g r c = (M mc ms t : EReal) := by unfold rMom; rw [hmc, hms, hr, rM_real]
  have h3 : kSec d g r c = (V v t : EReal) := by unfold kSec; rw [hv, hk, kV_real]
  have h4 : rSec d g r c = (V v t : EReal) := by unfold rSec; rw [hv, hr, rV_real]
  have ht' := tiny_pos
  have hV : 19 / 20 * tiny ≤ V v t := le_trans (by nlinarith) (V_ge (v := v) (t := t))
  refine ⟨M mc ms t, v, w, t, h1, h2, M_bound hmcb hmsb ht, h3, h4, by linarith, hw, hwb, ?_, ?_⟩
  · unfold kUpd
    rw [h1, h3, hw, kU_real hV]
  · unfold rUpd
    rw [h2, h4, hw, rU_real (by nlinarith)]

/-- The new first moments agree. -/
theorem mom_eq (h : d.InRange) (r : α) (c : β) : kMom d g r c = rMom d g r c := by
  obtain ⟨m, v, w, t, h1, h2, -⟩ := element g h r c
  rw [h1, h2]
/-- The new second moments agree. -/
theorem sec_eq (h : d.InRange) (r : α) (c : β) : kSec d g r c = rSec d g r c := by
  obtain ⟨m, v, w, t, -, -, -, h1, h2, -⟩ := element g h r c
  rw [h1, h2]
/-- The updates agree. -/
theorem upd_eq (h : d.InRange) (r : α) (c : β) : kUpd d g r c = rUpd d g r c := by
  obtain ⟨m, v, w, t, -, -, -, -, -, -, -, -, h1, h2⟩ := element g h r c
  rw [h1, h2]
/-- The new weights agree. -/
theorem new_eq (h : d.InRange) (r : α) (c : β) : kNew d g r c = rNew d g r c := by
  unfold kNew rNew
  rw [upd_eq g h]

/-- The new first moments are in range. -/
theorem mom_within (h : d.InRange) (r : α) (c : β) : Within (2 ^ 109) (kMom d g r c) := by
  obtain ⟨m, v, w, t, h1, -, h2, -⟩ := element g h r c
  exact ⟨m, h1, h2.trans (by norm_num)⟩
/-- The new weights are in range. -/
theorem new_within (h : d.InRange) (r : α) (c : β) : Within (2 ^ 109) (kNew d g r c) := by
  obtain ⟨m, v, w, t, -, -, hm, -, -, -, hw, hwb, hu, -⟩ := element g h r c
  refine ⟨w - U m (V v t) w, ?_, W_bound hm hwb⟩
  unfold kNew
  rw [hw, hu, EReal.coe_sub]

/-- The word of minus infinity. -/
theorem float_bot : Ideal.ofBits .f32 0xFF800000#32 = ⊥ := by
  simp [Ideal.ofBits, Ideal.ieee]

/-- A block in range has a magnitude in range. -/
theorem unit_real (f : Fin 128 → EReal) (h : ∀ k, Within (2 ^ 109) (f k)) :
    ∃ a : ℝ, unitOf f = (a : EReal) ∧ 0 ≤ a ∧ a < 2 ^ (126 : ℤ) := by
  choose x hx hxb using h
  have key : ∀ s : Finset (Fin 128), s.Nonempty → ∃ a : ℝ,
      s.fold max (Ideal.ofBits .f32 0xFF800000#32) (fun k => max (f k) (-f k)) = (a : EReal) ∧ 0 ≤ a ∧ a ≤ 2 ^ 109 := by
    intro s hs
    have abs_coe : ∀ k, max (f k) (-f k) = ((|x k| : ℝ) : EReal) := by
      intro k
      rw [hx, ← EReal.coe_neg, abs_eq_max_neg]
      exact (EReal.coe_strictMono.monotone.map_max).symm
    induction hs using Finset.Nonempty.cons_induction with
    | singleton k =>
      refine ⟨|x k|, ?_, abs_nonneg _, hxb k⟩
      rw [Finset.fold_singleton, float_bot, abs_coe]
      exact max_bot_right _
    | cons k s hk hs ih =>
      obtain ⟨a, ha, h0, h1⟩ := ih
      refine ⟨max |x k| a, ?_, le_max_of_le_right h0, max_le (hxb k) h1⟩
      rw [Finset.fold_cons, ha, abs_coe]
      exact (EReal.coe_strictMono.monotone.map_max).symm
  obtain ⟨a, ha, h0, h1⟩ := key Finset.univ Finset.univ_nonempty
  refine ⟨a * (1 / 448), ?_, by positivity, ?_⟩
  · unfold unitOf amax
    rw [ha, EReal.coe_mul]
  · norm_num
    linarith

/-- The codes agree. -/
theorem codes_eq (f F : α → β → EReal) (hf : ∀ r c, f r c = F r c) (h : ∀ r c, Within (2 ^ 109) (f r c)) (r : α) (c : β) :
    kCodes g f r c = rCodes g F r c := by
  obtain rfl : f = F := funext fun r => funext fun c => hf r c
  obtain ⟨a, ha, h0, h1⟩ := unit_real (fun k => f r (g.column (g.block c) k)) fun k => h _ _
  unfold kCodes rCodes
  rw [ha, inv_eq h0 h1]

/-- The scales agree. -/
theorem scales_eq (f F : α → β → EReal) (hf : ∀ r c, f r c = F r c) (h : ∀ r c, Within (2 ^ 109) (f r c)) (b : γ) (r : α) :
    kScales g f b r = rScales g F b r := by
  obtain rfl : f = F := funext fun r => funext fun c => hf r c
  obtain ⟨a, ha, h0, h1⟩ := unit_real (fun k => f r (g.column b k)) fun k => h _ _
  unfold kScales rScales
  rw [ha, scale_eq h0 h1]

end Cert.Data
-- ==== Proof.Read.lean ====
module

public import proofs.«01_k».proof.Proof.Sum
public import proofs.«01_k».proof.Proof.Data

/-! The unit's arithmetic read at an element. -/

@[expose] public section

set_option maxRecDepth 16384

noncomputable section

namespace Cert.Read

open Cert.KernelIdeal Cert.KernelIdeal.Gen
open Idealize.ShloMosaic Idealize.ShloMosaic.TcCoe
open Idealize.SL Idealize.SL.Sem
open Cert.Words Cert.Step
open Cert.Data (amax unitOf clip)

/-- The new first moment at an element. -/
theorem mNew_apply (u : Fin 4 × Fin 8) (rows : FVec Ideal S128x8 .f32) (sums : FVec Ideal S64x256 .f32)
    (mc : Vec Ideal S32x128 .fp8e4m3) (i : Fin 32) (j : Fin 128) :
    Unit.mNew u rows sums mc (ix2 i j) =
      mc (ix2 i j) * rows (ix2 (⟨32 * u.1.val + i.val, by omega⟩ : Fin 128) u.2) +
        Unit.total u sums (ix2 i j) * ((1 / 160 : ℝ) : EReal) := by
  have hs : extractStridedSlice S32x1 ![32 * u.1.val, u.2.val] rows (Unit.scale_slices u) (ix2 i (0 : Fin 1)) =
      rows (ix2 (⟨32 * u.1.val + i.val, by omega⟩ : Fin 128) u.2) := by
    refine extractStridedSlice_apply _ _ _ _ _ fun d => ?_
    fin_cases d
    · rfl
    · rfl
  rw [← hs]
  unfold Unit.mNew
  generalize Unit.total u sums = t
  generalize extractStridedSlice S32x1 ![32 * u.1.val, u.2.val] rows (Unit.scale_slices u) = w
  pointwise
  rfl

/-- The new second moment at an element. -/
theorem vNew_apply (u : Fin 4 × Fin 8) (sums : FVec Ideal S64x256 .f32)
    (v : Vec Ideal S32x128 .bf16) (i : Fin 32) (j : Fin 128) :
    Unit.vNew u sums v (ix2 i j) = kV (v (ix2 i j)) (Unit.total u sums (ix2 i j)) := by
  unfold Unit.vNew
  generalize Unit.total u sums = t
  rfl

/-- The update at an element. -/
theorem upd_apply (m v : FVec Ideal S32x128 .f32) (w : Vec Ideal S32x128 .f32) (i : Fin 32) (j : Fin 128) :
    Unit.upd m v w (ix2 i j) = kU (m (ix2 i j)) (v (ix2 i j)) (w (ix2 i j)) := rfl

/-- The row's greatest magnitude. -/
theorem amax_apply (x : FVec Ideal S32x128 .f32) (i : Fin 32) (k : Fin 1) :
    k0_pay64 x (ix2 i k) = amax fun j => x (ix2 i j) := by
  pointwise [k0_pay64, k0_pay63]
  rfl

/-- The search's words. -/
theorem shift_word (k : Fin 256) : IntOp.shli ArithUnit.vector (BitVec.ofNat 32 k.val) 23#32 = word k.val := by
  revert k
  decide

/-- A choice on a word being zero. -/
theorem select_zero {α : Type} (e : BitVec 32) (a b : α) :
    Scalar.select (IntOp.cmpi CmpIPredicate.eq e 0#32) a b = if e = 0#32 then a else b := by
  by_cases h : e = 0#32
  · rw [if_pos h, h]
    rfl
  · rw [if_neg h]
    have : IntOp.cmpi CmpIPredicate.eq e 0#32 = 0#1 := by
      show BitVec.ofBool (e == 0#32) = 0#1
      rw [beq_false_of_ne h]
      rfl
    rw [this]
    rfl

/-- The exponent the search finds, at an element: its row's. -/
theorem expWord_apply (x : FVec Ideal S32x128 .f32) (i : Fin 32) (j : Fin 128) :
    k0_pay65 x (ix2 i j) = expWord (unitOf fun k => x (ix2 i k)) := by
  pointwise [k0_pay65, k0_pay63]
  simp only [shift_word]
  rfl

/-- The code at an element. -/
theorem quant_apply (x : FVec Ideal S32x128 .f32) (i : Fin 32) (j : Fin 128) :
    Unit.quant x (ix2 i j) =
      clip (x (ix2 i j)) (Ideal.ofBits .f32 (invWord (expWord (unitOf fun k => x (ix2 i k))))) := by
  rw [← expWord_apply x i j]
  unfold Unit.quant
  generalize k0_pay65 x = e
  pointwise [k0_pay67, k0_pay66]
  rw [select_zero]
  rfl

/-- The turned scales, times the first moment's decay, at an element. -/
theorem rows_apply (x : Vec Ideal S8x128 .f32) (r : Fin 128) (b : Fin 8) :
    k0_pay48 x (ix2 r b) = x (ix2 b r) * ((9 / 10 : ℝ) : EReal) := by
  pointwise [k0_pay48]
  rfl

/-- The stored scales at an element. -/
theorem scales_apply (x : Vec Ideal S128x8 .f32) (b : Fin 8) (r : Fin 128) :
    k0_pay1 x (ix2 b r) = Ideal.ofBits .f32 (scaleWord (expWord (x (ix2 r b) * ((1 / 448 : ℝ) : EReal)))) := by
  pointwise [k0_pay1]
  rw [select_zero]
  simp only [shift_word]
  rfl

/-- The first moment's scales are formed as the weights' are. -/
theorem scales_same (x : Vec Ideal S128x8 .f32) : k0_pay574 (k0_pay572 x) (k0_pay573 x) = k0_pay1 x := rfl

end Cert.Read
-- ==== Proof.Tile.lean ====
module

public import proofs.«01_k».proof.Proof.Read

/-! A tile's results at an element: the step on the tile's operands. -/

@[expose] public section

set_option maxRecDepth 16384

noncomputable section

namespace Cert.Tile

open Cert.KernelIdeal Cert.KernelIdeal.Gen
open Idealize.ShloMosaic Idealize.ShloMosaic.TcCoe
open Idealize.SL Idealize.SL.Sem
open Cert.Words Cert.Step Cert.Data

/-- A tile's operands, as extended reals. -/
def tile (x0 : Vec Ideal S16x128x1024 .fp8e5m2) (x1 : Vec Ideal S16x8x128 .i32) (x2 : Vec Ideal S128x1024 .f32) (x3 : Vec Ideal S128x1024 .fp8e4m3) (x4 : Vec Ideal S8x128 .f32) (x5 : Vec Ideal S128x1024 .bf16) :
    Operands (Fin 128) (Fin 1024) (Fin 8) where
  code p r k := x0 (ix3 p r k)
  scale p b r := Ideal.ofBits .f32 (x1 (ix3 p b r))
  master r k := x2 (ix2 r k)
  mcode r k := x3 (ix2 r k)
  mscale b r := x4 (ix2 b r)
  second r k := x5 (ix2 r k)

/-- The tile's columns fall into eight blocks of 128. -/
def blocks : Blocks (Fin 1024) (Fin 8) where
  block k := ⟨k.val / 128, by omega⟩
  column b j := ⟨128 * b.val + j.val, by omega⟩

/-- The unit's row in the tile. -/
abbrev row (u : Fin 4 × Fin 8) (i : Fin 32) : Fin 128 := ⟨32 * u.1.val + i.val, by omega⟩
/-- The unit's column in the tile. -/
abbrev col (u : Fin 4 × Fin 8) (j : Fin 128) : Fin 1024 := ⟨128 * u.2.val + j.val, by omega⟩

/-- A unit's columns lie in the unit's block. -/
theorem block_col (u : Fin 4 × Fin 8) (j : Fin 128) : blocks.block (col u j) = u.2 :=
  Fin.ext (by show (128 * u.2.val + j.val) / 128 = u.2.val; omega)

/-- An index of a rectangle of two axes is its two coordinates. -/
theorem eta2 {m n : ℕ} (x : (⟨2, ![m, n]⟩ : Shape).Idx) : x = ix2 (x 0) (x 1) := by
  funext d
  fin_cases d
  · rfl
  · rfl

/-- The corner at zero. -/
theorem zero_corner : (![0, 0] : Fin 2 → ℕ) = fun _ => 0 := by
  funext d
  fin_cases d <;> rfl

/-- What the units' stores leave, at an element, when each unit stores its part of one array. -/
theorem stored {e : EltTy} (val : Fin 4 × Fin 8 → Vec Ideal S32x128 e) (G : Fin 128 → Fin 1024 → Elt Ideal e)
    (hv : ∀ u i j, val u (ix2 i j) = G (row u i) (col u j)) (r : Fin 128) (k : Fin 1024) :
    View.canon (Val := Elt Ideal) (Unit.units.map fun u => (⟨Unit.place u, val u⟩ : View.Piece (Elt Ideal) S128x1024 e)) (ix2 r k) = G r k := by
  refine View.canon_apply_of_pieces (fun y : S128x1024.Idx => G (y 0) (y 1)) _ (fun p hp x => ?_) (ix2 r k) ?_
  · obtain ⟨u, -, rfl⟩ := List.mem_map.mp hp
    obtain ⟨i, j, rfl⟩ : ∃ (i : Fin 32) (j : Fin 128), x = (ix2 i j : S32x128.Idx) := ⟨x 0, x 1, eta2 _⟩
    refine (hv u i j).trans ?_
    refine congrArg₂ G (Fin.ext ?_) (Fin.ext ?_)
    · show 32 * u.1.val + i.val = 32 * u.1.val + 1 * i.val
      omega
    · show 128 * u.2.val + j.val = 128 * u.2.val + 1 * j.val
      omega
  · refine ⟨_, List.mem_map.mpr ⟨(⟨r.val / 32, by omega⟩, ⟨k.val / 128, by omega⟩), Unit.mem_units _, rfl⟩, ?_⟩
    refine (Rect.mem_set_unit (inb := Unit.corner_inb _)).mpr fun a => ?_
    fin_cases a
    · show 32 * (r.val / 32) ≤ r.val ∧ r.val < 32 * (r.val / 32) + 32
      omega
    · show 128 * (k.val / 128) ≤ k.val ∧ k.val < 128 * (k.val / 128) + 128
      omega

/-- The block maxima read back, at an element, when each unit stores its part of one array. -/
theorem maxima (a : Memref sig .tc .vmem S128x128 .f32) (val : Fin 4 × Fin 8 → Vec Ideal S32x1 .f32) (G : Fin 128 → Fin 8 → EReal)
    (hv : ∀ u i k, val u (ix2 i k) = G (row u i) u.2) (r : Fin 128) (b : Fin 8) :
    a.view.readCov (Val := Elt Ideal) (Unit.units.map fun u => ⟨Unit.column u, val u⟩)
      (Rect.unit (s := S128x128) ![0, 0] S128x8.size inb_S128x128_S128x8_0_0).toLoadRect (ix2 r b : S128x8.Idx) = G r b := by
  rw [View.readCov_eq_canon']
  have hb : ∀ y : S128x128.Idx, y = ix2 r (⟨b.val, by omega⟩ : Fin 128) →
      View.canon (Val := Elt Ideal) (Unit.units.map fun u => (⟨Unit.column u, val u⟩ : View.Piece (Elt Ideal) S128x128 .f32)) y = G r b := by
    rintro y rfl
    refine (View.canon_apply_of_pieces (fun y : S128x128.Idx => G (y 0) ⟨(y 1).val % 8, by omega⟩) _ (fun p hp x => ?_) _ ?_).trans
      (show G r ⟨b.val % 8, by omega⟩ = G r b from congrArg (G r) (Fin.ext (Nat.mod_eq_of_lt b.isLt)))
    · obtain ⟨u, -, rfl⟩ := List.mem_map.mp hp
      obtain ⟨i, k, rfl⟩ : ∃ (i : Fin 32) (k : Fin 1), x = (ix2 i k : S32x1.Idx) := ⟨x 0, x 1, eta2 _⟩
      refine (hv u i k).trans ?_
      refine congrArg₂ G (Fin.ext ?_) (Fin.ext ?_)
      · show 32 * u.1.val + i.val = 32 * u.1.val + 1 * i.val
        omega
      · show u.2.val = (u.2.val + 1 * k.val) % 8
        omega
    · refine ⟨_, List.mem_map.mpr ⟨(⟨r.val / 32, by omega⟩, b), Unit.mem_units _, rfl⟩, ?_⟩
      refine (Rect.mem_set_unit (inb := Unit.amax_inb _)).mpr fun a => ?_
      fin_cases a
      · show 32 * (r.val / 32) ≤ r.val ∧ r.val < 32 * (r.val / 32) + 32
        omega
      · show b.val ≤ b.val ∧ b.val < b.val + 1
        omega
  refine hb _ ?_
  funext d
  fin_cases d
  · exact Fin.ext (by show 0 + 1 * r.val = r.val; omega)
  · exact Fin.ext (by show 0 + 1 * b.val = b.val; omega)

section
variable (c : Dev nD) (arg2 : Memref sig .tc .vmem S16x128x1024 .fp8e5m2) (harg2 : arg2.IsWhole) (arg3 : Memref sig .tc .vmem S16x8x128 .i32) (harg3 : arg3.IsWhole) (arg4 : Memref sig .tc .vmem S128x1024 .f32) (harg4 : arg4.IsWhole) (arg5 : Memref sig .tc .vmem S128x1024 .fp8e4m3) (harg5 : arg5.IsWhole) (arg6 : Memref sig .tc .vmem S8x128 .f32) (harg6 : arg6.IsWhole) (arg7 : Memref sig .tc .vmem S128x1024 .bf16) (harg7 : arg7.IsWhole) (arg15 : Memref sig .tc .vmem S4x8x512 .i32)
  (x0 : Vec Ideal S16x128x1024 .fp8e5m2) (x1 : Vec Ideal S16x8x128 .i32) (x2 : Vec Ideal S128x1024 .f32) (x3 : Vec Ideal S128x1024 .fp8e4m3) (x4 : Vec Ideal S8x128 .f32) (x5 : Vec Ideal S128x1024 .bf16)
  (h : ∀ (p : Fin 16) (b : Fin 8) (r : Fin 128), (x1 (ix3 p b r)).toNat % 2 ^ 16 = 0)

/-- The coordinates of a unit's element in the tile. -/
theorem at_corner (u : Fin 4 × Fin 8) (i : Fin 32) (j : Fin 128) (d : Fin S128x1024.rank) :
    ((ix2 (row u i) (col u j) : S128x1024.Idx) d).val = Unit.corner u d + ((ix2 i j : S32x128.Idx) d).val := by
  fin_cases d
  · rfl
  · rfl

/-- A load of a unit's part of a tile, at an element. -/
theorem load_tile {e : EltTy} (a : Memref sig .tc .vmem S128x1024 e) (ha : a.IsWhole) (x : Vec Ideal S128x1024 e)
    (u : Fin 4 × Fin 8) (i : Fin 32) (j : Fin 128) :
    View.readAt (Elt Ideal) a.view (Rect.unit (s := S128x1024) (Unit.corner u) S32x128.size (Unit.corner_inb u)).toLoadRect
      (ha.unread x) (ix2 i j : S32x128.Idx) = x (ix2 (row u i) (col u j)) :=
  Unit.load_apply a ha x _ _ _ (ix2 i j : S32x128.Idx) _ (at_corner u i j)

/-- A load of the whole block of scales, at an element. -/
theorem load_rows (a : Memref sig .tc .vmem S8x128 .f32) (ha : a.IsWhole) (x : Vec Ideal S8x128 .f32) (b : Fin 8) (r : Fin 128) :
    View.readAt (Elt Ideal) a.view (Rect.unit ![0, 0] S8x128.size inb_S8x128_S8x128_0_0).toLoadRect
      (ha.unread x) (ix2 b r : S8x128.Idx) = x (ix2 b r) :=
  Unit.load_apply a ha x _ _ _ (ix2 b r : S8x128.Idx) _ fun d => by fin_cases d <;> exact (Nat.zero_add _).symm

include h in
/-- The unit's sums over the ranks are the step's. -/
theorem total_at (u : Fin 4 × Fin 8) (i : Fin 32) (j : Fin 128) :
    Unit.total u (Unit.sums (F := Ideal) c arg2 harg2 arg3 harg3 arg15 x0 x1 u) (ix2 i j) =
      kSum (tile x0 x1 x2 x3 x4 x5) blocks (row u i) (col u j) := by
  rw [Sum.total_apply c arg2 harg2 arg3 harg3 arg15 x0 x1 h]
  unfold kSum
  rw [block_col]
  rfl

include h in
/-- The unit's new first moments are the step's. -/
theorem mom_at (u : Fin 4 × Fin 8) (i : Fin 32) (j : Fin 128) :
    Unit.mAt (F := Ideal) c arg2 harg2 arg3 harg3 arg5 harg5 arg6 harg6 arg15 x0 x1 x3 x4 u (ix2 i j) = kMom (tile x0 x1 x2 x3 x4 x5) blocks (row u i) (col u j) := by
  unfold Unit.mAt kMom kM
  rw [Read.mNew_apply, Read.rows_apply, total_at c arg2 harg2 arg3 harg3 arg15 x0 x1 x2 x3 x4 x5 h, block_col]
  rw [load_tile arg5 harg5 x3 u i j]
  rw [load_rows arg6 harg6 x4 u.2 (row u i)]
  rfl

include h in
/-- The unit's new second moments are the step's. -/
theorem sec_at (u : Fin 4 × Fin 8) (i : Fin 32) (j : Fin 128) :
    Unit.vAt (F := Ideal) c arg2 harg2 arg3 harg3 arg7 harg7 arg15 x0 x1 x5 u (ix2 i j) = kSec (tile x0 x1 x2 x3 x4 x5) blocks (row u i) (col u j) := by
  unfold Unit.vAt kSec
  rw [Read.vNew_apply, total_at c arg2 harg2 arg3 harg3 arg15 x0 x1 x2 x3 x4 x5 h]
  rw [load_tile arg7 harg7 x5 u i j]
  rfl

/-- The unit's master weights are the tile's. -/
theorem master_at (u : Fin 4 × Fin 8) (i : Fin 32) (j : Fin 128) :
    Unit.wAt (F := Ideal) arg4 harg4 x2 u (ix2 i j) = x2 (ix2 (row u i) (col u j)) := by
  unfold Unit.wAt
  rw [load_tile arg4 harg4 x2 u i j]

include h in
/-- The unit's updates are the step's. -/
theorem upd_at (u : Fin 4 × Fin 8) (i : Fin 32) (j : Fin 128) :
    Unit.uAt (F := Ideal) c arg2 harg2 arg3 harg3 arg4 harg4 arg5 harg5 arg6 harg6 arg7 harg7 arg15 x0 x1 x2 x3 x4 x5 u (ix2 i j) = kUpd (tile x0 x1 x2 x3 x4 x5) blocks (row u i) (col u j) := by
  unfold Unit.uAt kUpd
  rw [Read.upd_apply, mom_at c arg2 harg2 arg3 harg3 arg5 harg5 arg6 harg6 arg15 x0 x1 x2 x3 x4 x5 h, sec_at c arg2 harg2 arg3 harg3 arg7 harg7 arg15 x0 x1 x2 x3 x4 x5 h, master_at]
  rfl

include h in
/-- The unit's new weights are the step's. -/
theorem new_at (u : Fin 4 × Fin 8) (i : Fin 32) (j : Fin 128) :
    Unit.pAt (F := Ideal) c arg2 harg2 arg3 harg3 arg4 harg4 arg5 harg5 arg6 harg6 arg7 harg7 arg15 x0 x1 x2 x3 x4 x5 u (ix2 i j) = kNew (tile x0 x1 x2 x3 x4 x5) blocks (row u i) (col u j) := by
  unfold Unit.pAt kNew
  show Unit.wAt (F := Ideal) arg4 harg4 x2 u (ix2 i j) - Unit.uAt (F := Ideal) c arg2 harg2 arg3 harg3 arg4 harg4 arg5 harg5 arg6 harg6 arg7 harg7 arg15 x0 x1 x2 x3 x4 x5 u (ix2 i j) = _
  rw [upd_at c arg2 harg2 arg3 harg3 arg4 harg4 arg5 harg5 arg6 harg6 arg7 harg7 arg15 x0 x1 x2 x3 x4 x5 h, master_at]
  rfl

/-- The codes of a unit are the array's. -/
theorem codes_at (val : Fin 4 × Fin 8 → FVec Ideal S32x128 .f32) (f : Fin 128 → Fin 1024 → EReal)
    (hv : ∀ u i j, val u (ix2 i j) = f (row u i) (col u j)) (u : Fin 4 × Fin 8) (i : Fin 32) (j : Fin 128) :
    Unit.quant (val u) (ix2 i j) = kCodes blocks f (row u i) (col u j) := by
  rw [Read.quant_apply]
  unfold kCodes
  simp only [hv, block_col]
  rfl

/-- The block maxima of a unit are the array's. -/
theorem maxima_at (val : Fin 4 × Fin 8 → FVec Ideal S32x128 .f32) (f : Fin 128 → Fin 1024 → EReal)
    (hv : ∀ u i j, val u (ix2 i j) = f (row u i) (col u j)) (u : Fin 4 × Fin 8) (i : Fin 32) (k : Fin 1) :
    k0_pay64 (val u) (ix2 i k) = amax fun j => f (row u i) (blocks.column u.2 j) := by
  rw [Read.amax_apply]
  simp only [hv]
  rfl

end

section
variable (c : Dev nD) (i : grid0.Coords) (arg2 : Memref sig .tc .vmem S16x128x1024 .fp8e5m2) (harg2 : arg2.IsWhole) (arg3 : Memref sig .tc .vmem S16x8x128 .i32) (harg3 : arg3.IsWhole) (arg4 : Memref sig .tc .vmem S128x1024 .f32) (harg4 : arg4.IsWhole) (arg5 : Memref sig .tc .vmem S128x1024 .fp8e4m3) (harg5 : arg5.IsWhole) (arg6 : Memref sig .tc .vmem S8x128 .f32) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S128x1024 .fp8e4m3) (harg11 : arg11.IsWhole) (arg12 : Memref sig .tc .vmem S8x128 .f32) (harg12 : arg12.IsWhole) (arg13 : Memref sig .tc .vmem S128x1024 .fp8e4m3) (harg13 : arg13.IsWhole) (arg14 : Memref sig .tc .vmem S8x128 .f32) (harg14 : arg14.IsWhole) (arg15 : Memref sig .tc .vmem S4x8x512 .i32) (harg15 : arg15.IsWhole) (arg16 : Memref sig .tc .vmem S128x128 .f32) (harg16 : arg16.IsWhole) (arg17 : Memref sig .tc .vmem S128x128 .f32) (harg17 : arg17.IsWhole)
  (x0 : Vec Ideal S16x128x1024 .fp8e5m2) (x1 : Vec Ideal S16x8x128 .i32) (x2 : Vec Ideal S128x1024 .f32) (x3 : Vec Ideal S128x1024 .fp8e4m3) (x4 : Vec Ideal S8x128 .f32) (x5 : Vec Ideal S128x1024 .bf16)
  (h : ∀ (p : Fin 16) (b : Fin 8) (r : Fin 128), (x1 (ix3 p b r)).toNat % 2 ^ 16 = 0)
include h

/-- The tile of new weights. -/
theorem out6 (r : Fin 128) (k : Fin 1024) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 (ix2 r k) = kNew (tile x0 x1 x2 x3 x4 x5) blocks r k := by
  unfold out0_A_6
  rw [View.read_writes_junk_eq_canon, Unit.master_pieces]
  exact stored _ _ (new_at c arg2 harg2 arg3 harg3 arg4 harg4 arg5 harg5 arg6 harg6 arg7 harg7 arg15 x0 x1 x2 x3 x4 x5 h) r k

/-- The tile of new second moments. -/
theorem out7 (r : Fin 128) (k : Fin 1024) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 (ix2 r k) = kSec (tile x0 x1 x2 x3 x4 x5) blocks r k := by
  unfold out0_A_7
  rw [View.read_writes_junk_eq_canon, Unit.second_pieces]
  exact stored _ _ (sec_at c arg2 harg2 arg3 harg3 arg7 harg7 arg15 x0 x1 x2 x3 x4 x5 h) r k

/-- The tile of updates. -/
theorem out8 (r : Fin 128) (k : Fin 1024) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 (ix2 r k) = kUpd (tile x0 x1 x2 x3 x4 x5) blocks r k := by
  unfold out0_A_8
  rw [View.read_writes_junk_eq_canon, Unit.update_pieces]
  exact stored _ _ (upd_at c arg2 harg2 arg3 harg3 arg4 harg4 arg5 harg5 arg6 harg6 arg7 harg7 arg15 x0 x1 x2 x3 x4 x5 h) r k

/-- The tile of the first moments' codes. -/
theorem out9 (r : Fin 128) (k : Fin 1024) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 (ix2 r k) = kCodes blocks (kMom (tile x0 x1 x2 x3 x4 x5) blocks) r k := by
  unfold out0_A_9
  rw [View.read_writes_junk_eq_canon, Unit.mCodes_pieces]
  exact stored _ _ (codes_at _ _ (mom_at c arg2 harg2 arg3 harg3 arg5 harg5 arg6 harg6 arg15 x0 x1 x2 x3 x4 x5 h)) r k

/-- The tile of the weights' codes. -/
theorem out11 (r : Fin 128) (k : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 (ix2 r k) = kCodes blocks (kNew (tile x0 x1 x2 x3 x4 x5) blocks) r k := by
  unfold out0_A_11
  rw [View.read_writes_junk_eq_canon, Unit.pCodes_pieces]
  exact stored _ _ (codes_at _ _ (new_at c arg2 harg2 arg3 harg3 arg4 harg4 arg5 harg5 arg6 harg6 arg7 harg7 arg15 x0 x1 x2 x3 x4 x5 h)) r k

/-- The tile of the first moments' scales. -/
theorem out10 (b : Fin 8) (r : Fin 128) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 (ix2 b r) = kScales blocks (kMom (tile x0 x1 x2 x3 x4 x5) blocks) b r := by
  unfold out0_A_10
  rw [View.read_writes_junk_eq_canon]
  refine (congrFun (View.canon_unit_zero (Val := Elt Ideal) (e := .f32) (S := S8x128) (off := ![0, 0]) zero_corner inb_S8x128_S8x128_0_0
    (k0_pay1 (kernelRun0_A.sl.v4160 c arg2 harg2 arg3 harg3 arg5 harg5 arg6 harg6 arg15 arg16 x0 x1 x3 x4))) (ix2 b r)).trans ?_
  refine (Read.scales_apply _ b r).trans ?_
  unfold kernelRun0_A.sl.v4160
  rw [Unit.mAmax_pieces]
  exact congrArg (fun z : EReal => Ideal.ofBits .f32 (scaleWord (expWord (z * ((1 / 448 : ℝ) : EReal)))))
    (maxima arg16 (fun u => k0_pay64 (Unit.mAt (F := Ideal) c arg2 harg2 arg3 harg3 arg5 harg5 arg6 harg6 arg15 x0 x1 x3 x4 u)) (fun r b => amax fun k => kMom (tile x0 x1 x2 x3 x4 x5) blocks r (blocks.column b k)) (maxima_at _ _ (mom_at c arg2 harg2 arg3 harg3 arg5 harg5 arg6 harg6 arg15 x0 x1 x2 x3 x4 x5 h)) r b)

/-- The tile of the weights' scales. -/
theorem out12 (b : Fin 8) (r : Fin 128) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 (ix2 b r) = kScales blocks (kNew (tile x0 x1 x2 x3 x4 x5) blocks) b r := by
  unfold out0_A_12
  rw [View.read_writes_junk_eq_canon]
  refine (congrFun (View.canon_unit_zero (Val := Elt Ideal) (e := .f32) (S := S8x128) (off := ![0, 0]) zero_corner inb_S8x128_S8x128_0_0
    (k0_pay1 (kernelRun0_A.sl.v c arg2 harg2 arg3 harg3 arg4 harg4 arg5 harg5 arg6 harg6 arg7 harg7 arg15 arg17 x0 x1 x2 x3 x4 x5))) (ix2 b r)).trans ?_
  refine (Read.scales_apply _ b r).trans ?_
  unfold kernelRun0_A.sl.v
  rw [Unit.pAmax_pieces]
  exact congrArg (fun z : EReal => Ideal.ofBits .f32 (scaleWord (expWord (z * ((1 / 448 : ℝ) : EReal)))))
    (maxima arg17 (fun u => k0_pay64 (Unit.pAt (F := Ideal) c arg2 harg2 arg3 harg3 arg4 harg4 arg5 harg5 arg6 harg6 arg7 harg7 arg15 x0 x1 x2 x3 x4 x5 u)) (fun r b => amax fun k => kNew (tile x0 x1 x2 x3 x4 x5) blocks r (blocks.column b k)) (maxima_at _ _ (new_at c arg2 harg2 arg3 harg3 arg4 harg4 arg5 harg5 arg6 harg6 arg7 harg7 arg15 x0 x1 x2 x3 x4 x5 h)) r b)

end

end Cert.Tile
-- ==== Proof.Args.lean ====
module

public import proofs.«01_k».proof.Proof.Data
public import Idealize.ShloMosaic.Lib.Pointwise

/-! The arguments as the step's operands. -/

@[expose] public section

noncomputable section

namespace Cert.Args

open Idealize.ShloMosaic Cert.Data

/-- The ranks' codes. -/
abbrev Codes : Shape := ⟨3, ![16, 2432, 7168]⟩
/-- The ranks' scales. -/
abbrev Scales : Shape := ⟨3, ![16, 2432, 56]⟩
/-- The weights and the moments. -/
abbrev Full : Shape := ⟨2, ![2432, 7168]⟩
/-- The scales of one array, a row of the array a row. -/
abbrev Rows : Shape := ⟨2, ![2432, 56]⟩
/-- The scales of one array, a row of the array a column. -/
abbrev Columns : Shape := ⟨2, ![56, 2432]⟩

/-- The arguments' operands, as extended reals. -/
def whole (a0 : Vec Ideal Codes .i8) (a1 : Vec Ideal Scales .i32) (a2 : Vec Ideal Full .f32) (a3 : Vec Ideal Full .i8)
    (a4 : Vec Ideal Rows .f32) (a5 : Vec Ideal Full .bf16) : Operands (Fin 2432) (Fin 7168) (Fin 56) where
  code p r k := Ideal.ofBits .fp8e5m2 (a0 (ix3 p r k))
  scale p b r := Ideal.ofBits .f32 (a1 (ix3 p r b))
  master r k := a2 (ix2 r k)
  mcode r k := Ideal.ofBits .fp8e4m3 (a3 (ix2 r k))
  mscale b r := a4 (ix2 r b)
  second r k := a5 (ix2 r k)

/-- The columns fall into 56 blocks of 128. -/
def blocks : Blocks (Fin 7168) (Fin 56) where
  block k := ⟨k.val / 128, by omega⟩
  column b j := ⟨128 * b.val + j.val, by omega⟩

end Cert.Args
-- ==== Proof.Parts.lean ====
module

public import proofs.«01_k».proof.Proof.Tile
public import proofs.«01_k».proof.Proof.Args
public import proofs.«01_k».proof.Proof.Gen.KernelIdeal.Value
public import Idealize.ShloMosaic.Lib.Pipeline.ValueKit

/-! The kernel's results, whole: every tile is the step on its part of the arguments. -/

@[expose] public section

set_option maxRecDepth 16384

noncomputable section

namespace Cert.Whole

open Cert.KernelIdeal Cert.KernelIdeal.Gen
open Idealize.ShloMosaic Idealize.ShloMosaic.TcCoe
open Idealize.SL Idealize.SL.Sem
open Cert.Data

variable (m : (ℓ : Loc nD τ sig) → Buf (Elt Ideal) ℓ) (c : Dev nD)

/-- The arguments' operands. -/
abbrev ops : Operands (Fin 2432) (Fin 7168) (Fin 56) :=
  Args.whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The tile's row of tiles. -/
abbrev gi (t : Fin cfg0.N) : Fin 19 := (grid0.coords t) 0
/-- The tile's column of tiles. -/
abbrev gj (t : Fin cfg0.N) : Fin 7 := (grid0.coords t) 1

/-- A tile's row, in the array. -/
def row (t : Fin cfg0.N) (r : Fin 128) : Fin 2432 := ⟨128 * (gi t).val + r.val, by omega⟩
/-- A tile's column, in the array. -/
def col (t : Fin cfg0.N) (k : Fin 1024) : Fin 7168 := ⟨1024 * (gj t).val + k.val, by omega⟩
/-- A tile's block, in the array. -/
def blk (t : Fin cfg0.N) (b : Fin 8) : Fin 56 := ⟨8 * (gj t).val + b.val, by omega⟩

/-- A column of a tile falls into the tile's block. -/
theorem block_col (t : Fin cfg0.N) (k : Fin 1024) : Args.blocks.block (col t k) = blk t (Tile.blocks.block k) :=
  Fin.ext (by show (1024 * (gj t).val + k.val) / 128 = 8 * (gj t).val + k.val / 128; omega)
/-- A block of a tile has the tile's columns. -/
theorem column_blk (t : Fin cfg0.N) (b : Fin 8) (j : Fin 128) :
    Args.blocks.column (blk t b) j = col t (Tile.blocks.column b j) :=
  Fin.ext (by show 128 * (8 * (gj t).val + b.val) + j.val = 1024 * (gj t).val + (128 * b.val + j.val); omega)

/-- Window 0's block index. -/
theorem index0 : ∀ t : Fin cfg0.N, win0_0.index t = ![0, (grid0.coords t 0).val, (grid0.coords t 1).val] :=
  (by decide +kernel : ∀ t : Fin grid0.N, _)
/-- Window 1's block index. -/
theorem index1 : ∀ t : Fin cfg0.N, win0_1.index t = ![0, (grid0.coords t 1).val, (grid0.coords t 0).val] :=
  (by decide +kernel : ∀ t : Fin grid0.N, _)
/-- Window 2's block index. -/
theorem index2 : ∀ t : Fin cfg0.N, win0_2.index t = ![(grid0.coords t 0).val, (grid0.coords t 1).val] :=
  (by decide +kernel : ∀ t : Fin grid0.N, _)
/-- Window 3's block index. -/
theorem index3 : ∀ t : Fin cfg0.N, win0_3.index t = ![(grid0.coords t 0).val, (grid0.coords t 1).val] :=
  (by decide +kernel : ∀ t : Fin grid0.N, _)
/-- Window 4's block index. -/
theorem index4 : ∀ t : Fin cfg0.N, win0_4.index t = ![(grid0.coords t 1).val, (grid0.coords t 0).val] :=
  (by decide +kernel : ∀ t : Fin grid0.N, _)
/-- Window 5's block index. -/
theorem index5 : ∀ t : Fin cfg0.N, win0_5.index t = ![(grid0.coords t 0).val, (grid0.coords t 1).val] :=
  (by decide +kernel : ∀ t : Fin grid0.N, _)

/-- Window 6's block index. -/
theorem index6 : ∀ t : Fin cfg0.N, win0_6.index t = ![(grid0.coords t 0).val, (grid0.coords t 1).val] :=
  (by decide +kernel : ∀ t : Fin grid0.N, _)
/-- Window 7's block index. -/
theorem index7 : ∀ t : Fin cfg0.N, win0_7.index t = ![(grid0.coords t 0).val, (grid0.coords t 1).val] :=
  (by decide +kernel : ∀ t : Fin grid0.N, _)
/-- Window 8's block index. -/
theorem index8 : ∀ t : Fin cfg0.N, win0_8.index t = ![(grid0.coords t 0).val, (grid0.coords t 1).val] :=
  (by decide +kernel : ∀ t : Fin grid0.N, _)
/-- Window 9's block index. -/
theorem index9 : ∀ t : Fin cfg0.N, win0_9.index t = ![(grid0.coords t 0).val, (grid0.coords t 1).val] :=
  (by decide +kernel : ∀ t : Fin grid0.N, _)
/-- Window 11's block index. -/
theorem index11 : ∀ t : Fin cfg0.N, win0_11.index t = ![(grid0.coords t 0).val, (grid0.coords t 1).val] :=
  (by decide +kernel : ∀ t : Fin grid0.N, _)
/-- Window 10's block index. -/
theorem index10 : ∀ t : Fin cfg0.N, win0_10.index t = ![(grid0.coords t 1).val, (grid0.coords t 0).val] :=
  (by decide +kernel : ∀ t : Fin grid0.N, _)
/-- Window 12's block index. -/
theorem index12 : ∀ t : Fin cfg0.N, win0_12.index t = ![(grid0.coords t 1).val, (grid0.coords t 0).val] :=
  (by decide +kernel : ∀ t : Fin grid0.N, _)

/-- What the host hands the launch: the codes, read as floats. -/
theorem host0 : V m c main_v0 = bitcastToFloat (F := Ideal) .fp8e5m2 (m ((c : Thread nD τ).loc main_arg0)) := by
  unfold_abbrev_sides
  after_results
/-- The first moments' codes, read as floats. -/
theorem host1 : V m c main_v1 = bitcastToFloat (F := Ideal) .fp8e4m3 (m ((c : Thread nD τ).loc main_arg3)) := by
  unfold_abbrev_sides
  after_results
/-- The scales' words, turned. -/
theorem host2 : V m c main_v2 = transpose S16x56x2432 [0, 2, 1] (m ((c : Thread nD τ).loc main_arg1)) transposes_S16x2432x56_S16x56x2432_0_2_1 := by
  unfold_abbrev_sides
  after_results
/-- The first moments' scales, turned. -/
theorem host3 : V m c main_v3 = transpose S56x2432 [1, 0] (m ((c : Thread nD τ).loc main_arg4)) transposes_S2432x56_S56x2432_1_0 := by
  unfold_abbrev_sides
  after_results

/-- The scales' words turned, read at an element. -/
theorem turned3 (x : Vec Ideal S16x2432x56 .i32) (p : Fin 16) (b : Fin 56) (r : Fin 2432) :
    transpose S16x56x2432 [0, 2, 1] x transposes_S16x2432x56_S16x56x2432_0_2_1 (ix3 p b r) = x (ix3 p r b) := by
  pointwise []
/-- The first moments' scales turned, read at an element. -/
theorem turned2 (x : Vec Ideal S2432x56 .f32) (b : Fin 56) (r : Fin 2432) :
    transpose S56x2432 [1, 0] x transposes_S2432x56_S56x2432_1_0 (ix2 b r) = x (ix2 r b) := by
  pointwise []

/-- A tile's codes. -/
theorem read0 (t : Fin cfg0.N) (p : Fin 16) (r : Fin 128) (k : Fin 1024) :
    iblk m c 0 t (ix3 p r k : S16x128x1024.Idx) = (ops m c).code p (row t r) (col t k) := by
  blk_simp [iblk]
  rw [host0]
  refine congrArg (fun i => Ideal.ofBits .fp8e5m2 (m ((c : Thread nD τ).loc main_arg0) i)) ?_
  blk_ext [index0 t, row, col] <;> exact congrArg (· + _) (Nat.mul_comm _ _)

/-- A tile's words of scales. -/
theorem read1 (t : Fin cfg0.N) (p : Fin 16) (b : Fin 8) (r : Fin 128) :
    iblk m c 1 t (ix3 p b r : S16x8x128.Idx) = (m ((c : Thread nD τ).loc main_arg1)) (ix3 p (row t r) (blk t b)) := by
  blk_simp [iblk]
  rw [host2]
  refine (congrArg (transpose S16x56x2432 [0, 2, 1] (m ((c : Thread nD τ).loc main_arg1)) transposes_S16x2432x56_S16x56x2432_0_2_1)
    (?_ : _ = (ix3 p (blk t b) (row t r) : S16x56x2432.Idx))).trans (turned3 _ _ _ _)
  blk_ext [index1 t, row, blk] <;> exact congrArg (· + _) (Nat.mul_comm _ _)

/-- A tile's master weights. -/
theorem read2 (t : Fin cfg0.N) (r : Fin 128) (k : Fin 1024) :
    iblk m c 2 t (ix2 r k : S128x1024.Idx) = (ops m c).master (row t r) (col t k) := by
  blk_simp [iblk]
  refine congrArg (m ((c : Thread nD τ).loc main_arg2)) ?_
  blk_ext [index2 t, row, col] <;> exact congrArg (· + _) (Nat.mul_comm _ _)

/-- A tile's codes of the first moments. -/
theorem read3 (t : Fin cfg0.N) (r : Fin 128) (k : Fin 1024) :
    iblk m c 3 t (ix2 r k : S128x1024.Idx) = (ops m c).mcode (row t r) (col t k) := by
  blk_simp [iblk]
  rw [host1]
  refine congrArg (fun i => Ideal.ofBits .fp8e4m3 (m ((c : Thread nD τ).loc main_arg3) i)) ?_
  blk_ext [index3 t, row, col] <;> exact congrArg (· + _) (Nat.mul_comm _ _)

/-- A tile's scales of the first moments. -/
theorem read4 (t : Fin cfg0.N) (b : Fin 8) (r : Fin 128) :
    iblk m c 4 t (ix2 b r : S8x128.Idx) = (ops m c).mscale (blk t b) (row t r) := by
  blk_simp [iblk]
  rw [host3]
  refine (congrArg (transpose S56x2432 [1, 0] (m ((c : Thread nD τ).loc main_arg4)) transposes_S2432x56_S56x2432_1_0)
    (?_ : _ = (ix2 (blk t b) (row t r) : S56x2432.Idx))).trans (turned2 _ _ _)
  blk_ext [index4 t, row, blk] <;> exact congrArg (· + _) (Nat.mul_comm _ _)

/-- A tile's second moments. -/
theorem read5 (t : Fin cfg0.N) (r : Fin 128) (k : Fin 1024) :
    iblk m c 5 t (ix2 r k : S128x1024.Idx) = (ops m c).second (row t r) (col t k) := by
  blk_simp [iblk]
  refine congrArg (m ((c : Thread nD τ).loc main_arg5)) ?_
  blk_ext [index5 t, row, col] <;> exact congrArg (· + _) (Nat.mul_comm _ _)

/-- A tile's operands are its part of the arguments'. -/
theorem part (t : Fin cfg0.N) :
    Tile.tile (iblk m c 0 t) (iblk m c 1 t) (iblk m c 2 t) (iblk m c 3 t) (iblk m c 4 t) (iblk m c 5 t) =
      (ops m c).part (row t) (col t) (blk t) := by
  unfold Tile.tile Operands.part
  simp only [Operands.mk.injEq]
  refine ⟨?_, ?_, ?_, ?_, ?_, ?_⟩
  · funext p r k; exact read0 m c t p r k
  · funext p b r; exact congrArg (Ideal.ofBits .f32) (read1 m c t p b r)
  · funext r k; exact read2 m c t r k
  · funext r k; exact read3 m c t r k
  · funext b r; exact read4 m c t b r
  · funext r k; exact read5 m c t r k

end Cert.Whole
-- ==== Proof.Whole.lean ====
module

public import proofs.«01_k».proof.Proof.Parts
public import proofs.«01_k».proof.Proof.Tile
public import proofs.«01_k».proof.Proof.Args
public import proofs.«01_k».proof.Proof.Gen.KernelIdeal.Value
public import Idealize.ShloMosaic.Lib.Pipeline.ValueKit

/-! The kernel's results, whole: every tile is the step on its part of the arguments. -/

@[expose] public section

set_option maxRecDepth 16384

noncomputable section

namespace Cert.Whole

open Cert.KernelIdeal Cert.KernelIdeal.Gen
open Idealize.ShloMosaic Idealize.ShloMosaic.TcCoe
open Idealize.SL Idealize.SL.Sem
open Cert.Data

variable (m : (ℓ : Loc nD τ sig) → Buf (Elt Ideal) ℓ) (c : Dev nD)

section
variable (h : ∀ (p : Fin 16) (r : Fin 2432) (b : Fin 56), ((m ((c : Thread nD τ).loc main_arg1)) (ix3 p r b)).toNat % 2 ^ 16 = 0)
include h

/-- A tile's words of scales have no low half. -/
theorem low (t : Fin cfg0.N) (p : Fin 16) (b : Fin 8) (r : Fin 128) :
    (iblk m c 1 t (ix3 p b r : S16x8x128.Idx)).toNat % 2 ^ 16 = 0 := by
  rw [read1]
  exact h p _ _

/-- The new weights. -/
theorem final6 : (dats m 0 c).arrAt 6 cfg0.N = fun y : S2432x7168.Idx => kNew (ops m c) Args.blocks (y 0) (y 1) := by
  refine (dats m 0 c).arrAt_eq_of_covers 6 _ (by decide +kernel) fun t hf y => ?_
  blk_simp
  rw [after0_6]
  obtain ⟨r, k, rfl⟩ : ∃ (r : Fin 128) (k : Fin 1024), y = (ix2 r k : S128x1024.Idx) := ⟨y 0, y 1, Tile.eta2 _⟩
  refine (Tile.out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (low m c h t) r k).trans ?_
  rw [part, kNew_part Tile.blocks (ops m c) Args.blocks (row t) (col t) (blk t) (block_col t) r k]
  refine congrArg₂ (kNew (ops m c) Args.blocks) (Fin.ext ?_) (Fin.ext ?_)
  · blk_simp [index6 t]
    show 128 * (gi t).val + r.val = (gi t).val * 128 + r.val
    omega
  · blk_simp [index6 t]
    show 1024 * (gj t).val + k.val = (gj t).val * 1024 + k.val
    omega

/-- The new second moments. -/
theorem final7 : (dats m 0 c).arrAt 7 cfg0.N = fun y : S2432x7168.Idx => kSec (ops m c) Args.blocks (y 0) (y 1) := by
  refine (dats m 0 c).arrAt_eq_of_covers 7 _ (by decide +kernel) fun t hf y => ?_
  blk_simp
  rw [after0_7]
  obtain ⟨r, k, rfl⟩ : ∃ (r : Fin 128) (k : Fin 1024), y = (ix2 r k : S128x1024.Idx) := ⟨y 0, y 1, Tile.eta2 _⟩
  refine (Tile.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (low m c h t) r k).trans ?_
  rw [part, kSec_part Tile.blocks (ops m c) Args.blocks (row t) (col t) (blk t) (block_col t) r k]
  refine congrArg₂ (kSec (ops m c) Args.blocks) (Fin.ext ?_) (Fin.ext ?_)
  · blk_simp [index7 t]
    show 128 * (gi t).val + r.val = (gi t).val * 128 + r.val
    omega
  · blk_simp [index7 t]
    show 1024 * (gj t).val + k.val = (gj t).val * 1024 + k.val
    omega

/-- The updates. -/
theorem final8 : (dats m 0 c).arrAt 8 cfg0.N = fun y : S2432x7168.Idx => kUpd (ops m c) Args.blocks (y 0) (y 1) := by
  refine (dats m 0 c).arrAt_eq_of_covers 8 _ (by decide +kernel) fun t hf y => ?_
  blk_simp
  rw [after0_8]
  obtain ⟨r, k, rfl⟩ : ∃ (r : Fin 128) (k : Fin 1024), y = (ix2 r k : S128x1024.Idx) := ⟨y 0, y 1, Tile.eta2 _⟩
  refine (Tile.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (low m c h t) r k).trans ?_
  rw [part, kUpd_part Tile.blocks (ops m c) Args.blocks (row t) (col t) (blk t) (block_col t) r k]
  refine congrArg₂ (kUpd (ops m c) Args.blocks) (Fin.ext ?_) (Fin.ext ?_)
  · blk_simp [index8 t]
    show 128 * (gi t).val + r.val = (gi t).val * 128 + r.val
    omega
  · blk_simp [index8 t]
    show 1024 * (gj t).val + k.val = (gj t).val * 1024 + k.val
    omega

/-- The first moments' codes. -/
theorem final9 : (dats m 0 c).arrAt 9 cfg0.N = fun y : S2432x7168.Idx => kCodes Args.blocks (kMom (ops m c) Args.blocks) (y 0) (y 1) := by
  refine (dats m 0 c).arrAt_eq_of_covers 9 _ (by decide +kernel) fun t hf y => ?_
  blk_simp
  rw [after0_9]
  obtain ⟨r, k, rfl⟩ : ∃ (r : Fin 128) (k : Fin 1024), y = (ix2 r k : S128x1024.Idx) := ⟨y 0, y 1, Tile.eta2 _⟩
  refine (Tile.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (low m c h t) r k).trans ?_
  rw [part, kCodes_part Tile.blocks Args.blocks (row t) (col t) (blk t) (block_col t) (column_blk t) _ _ (kMom_part Tile.blocks (ops m c) Args.blocks (row t) (col t) (blk t) (block_col t)) r k]
  refine congrArg₂ (kCodes Args.blocks (kMom (ops m c) Args.blocks)) (Fin.ext ?_) (Fin.ext ?_)
  · blk_simp [index9 t]
    show 128 * (gi t).val + r.val = (gi t).val * 128 + r.val
    omega
  · blk_simp [index9 t]
    show 1024 * (gj t).val + k.val = (gj t).val * 1024 + k.val
    omega

/-- The weights' codes. -/
theorem final11 : (dats m 0 c).arrAt 11 cfg0.N = fun y : S2432x7168.Idx => kCodes Args.blocks (kNew (ops m c) Args.blocks) (y 0) (y 1) := by
  refine (dats m 0 c).arrAt_eq_of_covers 11 _ (by decide +kernel) fun t hf y => ?_
  blk_simp
  rw [after0_11]
  obtain ⟨r, k, rfl⟩ : ∃ (r : Fin 128) (k : Fin 1024), y = (ix2 r k : S128x1024.Idx) := ⟨y 0, y 1, Tile.eta2 _⟩
  refine (Tile.out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (low m c h t) r k).trans ?_
  rw [part, kCodes_part Tile.blocks Args.blocks (row t) (col t) (blk t) (block_col t) (column_blk t) _ _ (kNew_part Tile.blocks (ops m c) Args.blocks (row t) (col t) (blk t) (block_col t)) r k]
  refine congrArg₂ (kCodes Args.blocks (kNew (ops m c) Args.blocks)) (Fin.ext ?_) (Fin.ext ?_)
  · blk_simp [index11 t]
    show 128 * (gi t).val + r.val = (gi t).val * 128 + r.val
    omega
  · blk_simp [index11 t]
    show 1024 * (gj t).val + k.val = (gj t).val * 1024 + k.val
    omega

/-- The first moments' scales. -/
theorem final10 : (dats m 0 c).arrAt 10 cfg0.N = fun y : S56x2432.Idx => kScales Args.blocks (kMom (ops m c) Args.blocks) (y 0) (y 1) := by
  refine (dats m 0 c).arrAt_eq_of_covers 10 _ (by decide +kernel) fun t hf y => ?_
  blk_simp
  rw [after0_10]
  obtain ⟨r, k, rfl⟩ : ∃ (r : Fin 8) (k : Fin 128), y = (ix2 r k : S8x128.Idx) := ⟨y 0, y 1, Tile.eta2 _⟩
  refine (Tile.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (low m c h t) r k).trans ?_
  rw [part, kScales_part Tile.blocks Args.blocks (row t) (col t) (blk t) (column_blk t) _ _ (kMom_part Tile.blocks (ops m c) Args.blocks (row t) (col t) (blk t) (block_col t)) r k]
  refine congrArg₂ (kScales Args.blocks (kMom (ops m c) Args.blocks)) (Fin.ext ?_) (Fin.ext ?_)
  · blk_simp [index10 t]
    show 8 * (gj t).val + r.val = (gj t).val * 8 + r.val
    omega
  · blk_simp [index10 t]
    show 128 * (gi t).val + k.val = (gi t).val * 128 + k.val
    omega

/-- The weights' scales. -/
theorem final12 : (dats m 0 c).arrAt 12 cfg0.N = fun y : S56x2432.Idx => kScales Args.blocks (kNew (ops m c) Args.blocks) (y 0) (y 1) := by
  refine (dats m 0 c).arrAt_eq_of_covers 12 _ (by decide +kernel) fun t hf y => ?_
  blk_simp
  rw [after0_12]
  obtain ⟨r, k, rfl⟩ : ∃ (r : Fin 8) (k : Fin 128), y = (ix2 r k : S8x128.Idx) := ⟨y 0, y 1, Tile.eta2 _⟩
  refine (Tile.out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (low m c h t) r k).trans ?_
  rw [part, kScales_part Tile.blocks Args.blocks (row t) (col t) (blk t) (column_blk t) _ _ (kNew_part Tile.blocks (ops m c) Args.blocks (row t) (col t) (blk t) (block_col t)) r k]
  refine congrArg₂ (kScales Args.blocks (kNew (ops m c) Args.blocks)) (Fin.ext ?_) (Fin.ext ?_)
  · blk_simp [index12 t]
    show 8 * (gj t).val + r.val = (gj t).val * 8 + r.val
    omega
  · blk_simp [index12 t]
    show 128 * (gi t).val + k.val = (gi t).val * 128 + k.val
    omega

end

end Cert.Whole
-- ==== Proof.KernelEnds.lean ====
module

public import proofs.«01_k».proof.Proof.Whole

/-! The kernel's run: it ends with the step's results, and the arguments unchanged. -/

@[expose] public section

noncomputable section

namespace Cert.Whole

open Cert.KernelIdeal Cert.KernelIdeal.Gen Cert.KernelIdeal.Value
open Idealize.ShloMosaic Idealize.ShloMosaic.TcCoe
open Idealize.SL Idealize.SL.Sem
open Cert.Data

variable (m : (ℓ : Loc nD τ sig) → Buf (Elt Ideal) ℓ) (ρ : Dev nD → PrngReg)

/-- The kernel runs, and ends with the step's results on each device and the arguments unchanged. -/
theorem ends (h : ∀ (c : Dev nD) (p : Fin 16) (r : Fin 2432) (b : Fin 56),
      ((m ((c : Thread nD τ).loc main_arg1)) (ix3 p r b)).toNat % 2 ^ 16 = 0) :
    θ_run (defs (F := Ideal)) (onTc (τ := τ) (main (F := Ideal))) ⟨m, fun _ => 0, ρ⟩ fun r => ∀ c : Dev nD,
      r.2.mem ((c.tc : Thread nD τ).loc main_v4_0) = (fun y : S2432x7168.Idx => kNew (ops m c) Args.blocks (y 0) (y 1))
      ∧ r.2.mem ((c.tc : Thread nD τ).loc main_v4_1) = (fun y : S2432x7168.Idx => kSec (ops m c) Args.blocks (y 0) (y 1))
      ∧ r.2.mem ((c.tc : Thread nD τ).loc main_v4_2) = (fun y : S2432x7168.Idx => kUpd (ops m c) Args.blocks (y 0) (y 1))
      ∧ r.2.mem ((c.tc : Thread nD τ).loc main_v4_3) = (fun y : S2432x7168.Idx => kCodes Args.blocks (kMom (ops m c) Args.blocks) (y 0) (y 1))
      ∧ r.2.mem ((c.tc : Thread nD τ).loc main_v4_4) = (fun y : S56x2432.Idx => kScales Args.blocks (kMom (ops m c) Args.blocks) (y 0) (y 1))
      ∧ r.2.mem ((c.tc : Thread nD τ).loc main_v4_5) = (fun y : S2432x7168.Idx => kCodes Args.blocks (kNew (ops m c) Args.blocks) (y 0) (y 1))
      ∧ r.2.mem ((c.tc : Thread nD τ).loc main_v4_6) = (fun y : S56x2432.Idx => kScales Args.blocks (kNew (ops m c) Args.blocks) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r f c => ⟨(post6 m r f c).trans (final6 m c (h c)),
      (post7 m r f c).trans (final7 m c (h c)),
      (post8 m r f c).trans (final8 m c (h c)),
      (post9 m r f c).trans (final9 m c (h c)),
      (post10 m r f c).trans (final10 m c (h c)),
      (post11 m r f c).trans (final11 m c (h c)),
      (post12 m r f c).trans (final12 m c (h c)),
      kept_main_arg0 m r f c,
      kept_main_arg1 m r f c,
      kept_main_arg2 m r f c,
      kept_main_arg3 m r f c,
      kept_main_arg4 m r f c,
      kept_main_arg5 m r f c⟩) (run_main m ρ)

end Cert.Whole
-- ==== Proof.RefRead.lean ====
module

public import proofs.«01_k».proof.Proof.Args
public import proofs.«01_k».proof.Proof.Gen.ReferenceIdeal.Skeleton
public import Idealize.ShloMosaic.Lib.Pointwise
public import Idealize.ShloMosaic.Lib.Pipeline.Value

/-! The reference's arithmetic read at an element. -/

@[expose] public section

noncomputable section

namespace Cert.RefRead

open Cert.ReferenceIdeal Cert.ReferenceIdeal.Gen
open Idealize.ShloMosaic
open Cert.Words Cert.Step Cert.Data

/-- A column as its block and its place there. -/
def within (k : Fin 7168) : Fin 128 := ⟨k.val % 128, by omega⟩

/-- A block's place, as the column. -/
theorem column_block (k : Fin 7168) : Args.blocks.column (Args.blocks.block k) (within k) = k :=
  Fin.ext (by show 128 * (k.val / 128) + k.val % 128 = k.val; omega)

/-- An array cut into blocks, read at a block's place. -/
theorem cut {e : EltTy} (x : Vec Ideal S2432x7168 e) (r : Fin 2432) (b : Fin 56) (j : Fin 128) :
    shapeCast S2432x56x128 x shapeCasts_S2432x7168_S2432x56x128 (ix3 r b j) = x (ix2 r (Args.blocks.column b j)) :=
  shapeCast_apply _ _ (ix3 r b j) (ix2 r (Args.blocks.column b j)) (by
    rw [Shape.rowMajor_val_two, Shape.rowMajor_val_three]
    show r.val * 7168 + (128 * b.val + j.val) = (r.val * 56 + b.val) * 128 + j.val
    omega)

/-- Blocks laid side by side, read at a column. -/
theorem laid {e : EltTy} (x : Vec Ideal S2432x56x128 e) (r : Fin 2432) (k : Fin 7168) :
    shapeCast S2432x7168 x shapeCasts_S2432x56x128_S2432x7168 (ix2 r k) = x (ix3 r (Args.blocks.block k) (within k)) :=
  shapeCast_apply _ _ (ix2 r k) (ix3 r (Args.blocks.block k) (within k)) (by
    rw [Shape.rowMajor_val_two, Shape.rowMajor_val_three]
    show (r.val * 56 + k.val / 128) * 128 + k.val % 128 = r.val * 7168 + k.val
    omega)

/-- A scale a block, spread over the block. -/
theorem spread {e : EltTy} (x : Vec Ideal S2432x56 e) (r : Fin 2432) (b : Fin 56) (j : Fin 128) :
    broadcastTo S2432x56x128 (shapeCast S2432x56x1 x shapeCasts_S2432x56_S2432x56x1)
      broadcasts_S2432x56x1_S2432x56x128 (ix3 r b j) = x (ix2 r b) := by
  refine (broadcastTo_apply _ _ (ix3 r b j) (ix3 r b (0 : Fin 1)) fun a => ?_).trans
    (shapeCast_apply _ _ (ix3 r b (0 : Fin 1)) (ix2 r b) ?_)
  · match a with
    | ⟨0, _⟩ => rfl
    | ⟨1, _⟩ => rfl
    | ⟨2, _⟩ => rfl
  · rw [Shape.rowMajor_val_two, Shape.rowMajor_val_three]
    show r.val * 56 + b.val = (r.val * 56 + b.val) * 1 + 0
    omega

/-- The blocks' magnitudes the scales are chosen from. -/
def units (f : FVec Ideal S2432x7168 .f32) : FVec Ideal S2432x56 .f32 :=
  mulf (multiReduction .maximumf [2] S2432x56 (absf (k0_pay7 f)) 0xFF800000#32 reduces_S2432x56x128_S2432x56 (.inl rfl) rfl)
    (broadcast S2432x56 (Named.named κ "inv448" 0x3B124925#32))

/-- The greatest of a block. -/
theorem greatest_apply (w : FVec Ideal S2432x56x128 .f32) (r : Fin 2432) (b : Fin 56) :
    multiReduction .maximumf [2] S2432x56 w 0xFF800000#32 reduces_S2432x56x128_S2432x56 (.inl rfl) rfl (ix2 r b) =
      Finset.univ.fold max (Ideal.ofBits .f32 0xFF800000#32) fun j : Fin 128 => w (ix3 r b j) := by
  refine (Ideal.multiReduction_maximumf_single w _ reduces_S2432x56x128_S2432x56 _ _ (ix2 r b)).trans ?_
  refine Finset.fold_congr fun j _ => congrArg w (funext fun a => ?_)
  match a with
  | ⟨0, _⟩ => rfl
  | ⟨1, _⟩ => rfl
  | ⟨2, _⟩ => rfl

/-- The reciprocal of the codes' greatest. -/
theorem reciprocal : (Named.named κ "inv448" 0x3B124925#32 : Ideal .f32) = ((1 / 448 : ℝ) : EReal) :=
  IdealRules.named_const.ideal_named_scalar _ _ _ _ rfl

/-- The greatest magnitude of a block, times the reciprocal of the codes' greatest. -/
theorem unit_apply (f : FVec Ideal S2432x7168 .f32) (r : Fin 2432) (b : Fin 56) :
    units f (ix2 r b) = unitOf fun j => f (ix2 r (Args.blocks.column b j)) := by
  have e : ∀ j : Fin 128, absf (k0_pay7 f) (ix3 r b j) =
      max (f (ix2 r (Args.blocks.column b j))) (-f (ix2 r (Args.blocks.column b j))) := fun j =>
    congrArg (fun x : EReal => max x (-x)) (cut (e := .f32) f r b j)
  have e' := (greatest_apply (absf (k0_pay7 f)) r b).trans (Finset.fold_congr fun j _ => e j)
  unfold units
  rw [mulf_apply, e']
  exact congrArg (fun x : EReal => amax (fun j => f (ix2 r (Args.blocks.column b j))) * x) reciprocal

/-- The scales turned, read at an element. -/
theorem turned (x : FVec Ideal S2432x56 .f32) (b : Fin 56) (r : Fin 2432) :
    transpose S56x2432 [1, 0] x transposes_S2432x56_p1_0_S56x2432 (ix2 b r) = x (ix2 r b) := by
  pointwise []

/-- The exponent of a block's scale. -/
theorem exponent_apply (u : FVec Ideal S2432x56 .f32) (r : Fin 2432) (b : Fin 56) :
    k0_pay13 u (Scalar.ofBits .f32 0x00800000#32) (ix2 r b) = refExp (u (ix2 r b)) := by
  pointwise [k0_pay13]
  unfold refExp
  rfl

/-- The codes cut into blocks, read at a block's place. -/
theorem cut4 (x : FVec Ideal S16x2432x7168 .fp8e5m2) (p : Fin 16) (r : Fin 2432) (b : Fin 56) (j : Fin 128) :
    shapeCast S16x2432x56x128 x shapeCasts_S16x2432x7168_S16x2432x56x128 (ix4 p r b j) = x (ix3 p r (Args.blocks.column b j)) :=
  shapeCast_apply _ _ (ix4 p r b j) (ix3 p r (Args.blocks.column b j)) (by
    rw [Shape.rowMajor_val_three, Shape.rowMajor_val_four]
    show (p.val * 2432 + r.val) * 7168 + (128 * b.val + j.val) = ((p.val * 2432 + r.val) * 56 + b.val) * 128 + j.val
    omega)

/-- The ranks' scales, spread over their blocks. -/
theorem spread4 (x : FVec Ideal S16x2432x56 .f32) (p : Fin 16) (r : Fin 2432) (b : Fin 56) (j : Fin 128) :
    broadcastTo S16x2432x56x128 (shapeCast S16x2432x56x1 x shapeCasts_S16x2432x56_S16x2432x56x1)
      broadcasts_S16x2432x56x1_S16x2432x56x128 (ix4 p r b j) = x (ix3 p r b) := by
  refine (broadcastTo_apply _ _ (ix4 p r b j) (ix4 p r b (0 : Fin 1)) fun a => ?_).trans
    (shapeCast_apply _ _ (ix4 p r b (0 : Fin 1)) (ix3 p r b) ?_)
  · match a with
    | ⟨0, _⟩ => rfl
    | ⟨1, _⟩ => rfl
    | ⟨2, _⟩ => rfl
    | ⟨3, _⟩ => rfl
  · rw [Shape.rowMajor_val_three, Shape.rowMajor_val_four]
    show (p.val * 2432 + r.val) * 56 + b.val = ((p.val * 2432 + r.val) * 56 + b.val) * 1 + 0
    omega

/-- The sum over the ranks. -/
theorem sum_apply (w : FVec Ideal S16x2432x56x128 .f32) (r : Fin 2432) (b : Fin 56) (j : Fin 128) :
    multiReduction .add [0] S2432x56x128 w 0x00000000#32 reduces_S16x2432x56x128_S2432x56x128 (.inl rfl) rfl (ix3 r b j) =
      ∑ p : Fin 16, w (ix4 p r b j) := by
  refine (Ideal.multiReduction_add_single w _ reduces_S16x2432x56x128_S2432x56x128 _ _ (ix3 r b j)).trans ?_
  refine Finset.sum_congr rfl fun p _ => congrArg w (funext fun a => ?_)
  match a with
  | ⟨0, _⟩ => rfl
  | ⟨1, _⟩ => rfl
  | ⟨2, _⟩ => rfl
  | ⟨3, _⟩ => rfl

section
variable (v0 : Vec Ideal S16x2432x7168 .i8) (v2 : Vec Ideal S16x2432x56 .i32) (v6 : Vec Ideal S2432x7168 .f32)
  (v4 : Vec Ideal S2432x7168 .i8) (v7 : Vec Ideal S2432x56 .f32) (v23 : Vec Ideal S2432x7168 .bf16)
  (r : Fin 2432) (k : Fin 7168) (b : Fin 56)

/-- The mean of the ranks' gradients. -/
theorem mean_apply : k0_pay1 v0 v2 (ix2 r k) = rG (rSum (Args.whole v0 v2 v6 v4 v7 v23) Args.blocks r k) := by
  unfold k0_pay1
  refine (laid (e := .f32) _ r k).trans ?_
  have e : ∀ p : Fin 16, mulf (extf (F := Ideal) .f32 (shapeCast S16x2432x56x128 (bitcastToFloat .fp8e5m2 v0) shapeCasts_S16x2432x7168_S16x2432x56x128) bitsLt_fp8e5m2_f32)
      (broadcastTo S16x2432x56x128 (shapeCast S16x2432x56x1 (bitcastToFloat .f32 v2) shapeCasts_S16x2432x56_S16x2432x56x1)
        broadcasts_S16x2432x56x1_S16x2432x56x128) (ix4 p r (Args.blocks.block k) (within k)) =
      (Args.whole v0 v2 v6 v4 v7 v23).code p r k * (Args.whole v0 v2 v6 v4 v7 v23).scale p (Args.blocks.block k) r := fun p =>
    congrArg₂ (· * ·) ((cut4 (bitcastToFloat .fp8e5m2 v0) p r _ _).trans (by rw [column_block]; rfl))
      (spread4 (bitcastToFloat .f32 v2) p r _ _)
  exact congrArg rG ((sum_apply _ r _ _).trans (Finset.sum_congr rfl fun p _ => e p))

/-- The new first moment. -/
theorem moment_apply : k0_pay2 v0 v2 v4 v7 (ix2 r k) = rMom (Args.whole v0 v2 v6 v4 v7 v23) Args.blocks r k := by
  have e := laid (e := .f32) (mulf (extf (F := Ideal) .f32 (shapeCast S2432x56x128 (bitcastToFloat .fp8e4m3 v4) shapeCasts_S2432x7168_S2432x56x128) bitsLt_fp8e4m3_f32)
    (broadcastTo S2432x56x128 (shapeCast S2432x56x1 v7 shapeCasts_S2432x56_S2432x56x1) broadcasts_S2432x56x1_S2432x56x128)) r k
  have e' : _ = (Args.whole v0 v2 v6 v4 v7 v23).mcode r k * (Args.whole v0 v2 v6 v4 v7 v23).mscale (Args.blocks.block k) r := e.trans
    (congrArg₂ (· * ·) ((cut (e := .fp8e4m3) (bitcastToFloat (F := Ideal) .fp8e4m3 v4) r (Args.blocks.block k) (within k)).trans (by rw [column_block]; rfl)) (spread (e := .f32) v7 r (Args.blocks.block k) (within k)))
  exact congrArg₂ (· + ·) (congrArg (_ * ·) e') (congrArg (_ * ·) (mean_apply v0 v2 v6 v4 v7 v23 r k))

/-- The new second moment. -/
theorem second_apply : k0_pay3 v0 v2 v23 (ix2 r k) = rSec (Args.whole v0 v2 v6 v4 v7 v23) Args.blocks r k :=
  congrArg (fun g : EReal => rV (v23 (ix2 r k)) g) (mean_apply v0 v2 v6 v4 v7 v23 r k)

/-- The update. -/
theorem update_apply : k0_pay5 v6 (k0_pay3 v0 v2 v23) (k0_pay4 v0 v2 v4 v7) (Named.named κ "bc2" 0x3F243A44#32) (ix2 r k) =
    rUpd (Args.whole v0 v2 v6 v4 v7 v23) Args.blocks r k :=
  congrArg₂ (fun m v : EReal => rU m v (v6 (ix2 r k))) (moment_apply v0 v2 v6 v4 v7 v23 r k) (second_apply v0 v2 v6 v4 v7 v23 r k)

/-- The new weights. -/
theorem weights_apply : k0_pay6 v6 (k0_pay3 v0 v2 v23) (k0_pay4 v0 v2 v4 v7) (Named.named κ "bc2" 0x3F243A44#32) (ix2 r k) =
    rNew (Args.whole v0 v2 v6 v4 v7 v23) Args.blocks r k :=
  congrArg (fun u : EReal => v6 (ix2 r k) - u) (update_apply v0 v2 v6 v4 v7 v23 r k)

end

/-- The exponents of an array's scales, from the blocks' magnitudes. -/
theorem exponents (f : FVec Ideal S2432x7168 .f32) : k0_pay8 f = k0_pay13 (units f) (Scalar.ofBits .f32 0x00800000#32) := rfl

/-- A power of two, read at an element. -/
theorem power (u : FVec Ideal S2432x56 .f32) (i : S2432x56.Idx) : exp2 u i = Ideal.exp2 (u i) := rfl

/-- The inverse of a power of two, read at an element. -/
theorem inverse (u : FVec Ideal S2432x56 .f32) (i : S2432x56.Idx) :
    exp2 (subf (broadcast S2432x56 (Scalar.ofBits (F := Ideal) .f32 0x00000000#32)) u) i = Ideal.exp2 (0 - u i) := by
  have z : (broadcast S2432x56 (Scalar.ofBits (F := Ideal) .f32 0x00000000#32)) i = (0 : EReal) := Ideal.ofBits_zero_f32
  have d : ∀ x : FVec Ideal S2432x56 .f32, subf x u i = (x i : EReal) - u i := fun x => rfl
  rw [power, d, z]

/-- Values times their inverse scales, clipped, read at an element. -/
theorem clipped (x y : FVec Ideal S2432x56x128 .f32) (i : S2432x56x128.Idx) :
    truncf .fp8e4m3 (minimumf (broadcast S2432x56x128 (Scalar.ofBits (F := Ideal) .f32 0x43E00000#32))
      (maximumf (broadcast S2432x56x128 (Scalar.ofBits (F := Ideal) .f32 0xC3E00000#32)) (mulf x y))) bitsLt_fp8e4m3_f32 i =
      clip (x i) (y i) := rfl

/-- The codes of an array, in one expression. -/
theorem codes_form (f : FVec Ideal S2432x7168 .f32) : k0_pay9 f =
    shapeCast S2432x7168 (truncf .fp8e4m3 (minimumf (broadcast S2432x56x128 (Scalar.ofBits (F := Ideal) .f32 0x43E00000#32))
      (maximumf (broadcast S2432x56x128 (Scalar.ofBits (F := Ideal) .f32 0xC3E00000#32)) (mulf (k0_pay7 f)
        (broadcastTo S2432x56x128 (shapeCast S2432x56x1
          (exp2 (subf (broadcast S2432x56 (Scalar.ofBits (F := Ideal) .f32 0x00000000#32)) (k0_pay8 f)))
          shapeCasts_S2432x56_S2432x56x1) broadcasts_S2432x56x1_S2432x56x128)))) bitsLt_fp8e4m3_f32)
      shapeCasts_S2432x56x128_S2432x7168 := rfl

section
variable (f : FVec Ideal S2432x7168 .f32) (g : Fin 2432 → Fin 7168 → EReal) (h : ∀ r k, f (ix2 r k) = g r k)
include h

/-- The scales of an array. -/
theorem scales_apply (b : Fin 56) (r : Fin 2432) : k0_pay16 (k0_pay10 f) (ix2 b r) = rScales Args.blocks g b r := by
  have e := (exponent_apply (units f) r b).trans (congrArg refExp (unit_apply f r b))
  rw [← exponents] at e
  simp only [h] at e
  unfold k0_pay16
  refine (turned _ _ _).trans ?_
  unfold k0_pay10 rScales
  generalize k0_pay8 f = u at e ⊢
  exact (power u (ix2 r b)).trans (congrArg Ideal.exp2 e)

/-- The codes of an array. -/
theorem codes_apply (r : Fin 2432) (k : Fin 7168) : k0_pay9 f (ix2 r k) = rCodes Args.blocks g r k := by
  have e := (exponent_apply (units f) r (Args.blocks.block k)).trans (congrArg refExp (unit_apply f r (Args.blocks.block k)))
  rw [← exponents] at e
  simp only [h] at e
  have e1 : k0_pay7 f (ix3 r (Args.blocks.block k) (within k)) = g r k :=
    (cut (e := .f32) f r (Args.blocks.block k) (within k)).trans (by rw [column_block, h])
  have e2 := spread (e := .f32)
    (exp2 (subf (broadcast S2432x56 (Scalar.ofBits (F := Ideal) .f32 0x00000000#32)) (k0_pay8 f))) r (Args.blocks.block k) (within k)
  have e3 : (exp2 (subf (broadcast S2432x56 (Scalar.ofBits (F := Ideal) .f32 0x00000000#32)) (k0_pay8 f))) (ix2 r (Args.blocks.block k)) =
      Ideal.exp2 (0 - refExp (unitOf fun j => g r (Args.blocks.column (Args.blocks.block k) j))) := by
    rw [inverse, e]
  rw [codes_form]
  refine (laid (e := .fp8e4m3) _ r k).trans ?_
  rw [clipped, e1]
  unfold rCodes
  refine congrArg (clip (g r k)) ?_
  exact e2.trans e3

end

end Cert.RefRead
-- ==== Proof.RefOut.lean ====
module

public import proofs.«01_k».proof.Proof.RefRead
public import proofs.«01_k».proof.Proof.Gen.ReferenceIdeal.Frame
public import Idealize.ShloMosaic.Lib.Pipeline.ValueKit

/-! What the reference's body leaves, whole. -/

@[expose] public section

set_option maxRecDepth 16384

noncomputable section

namespace Cert.RefRun

open Cert.ReferenceIdeal Cert.ReferenceIdeal.Gen
open Idealize.ShloMosaic Idealize.ShloMosaic.TcCoe
open Idealize.SL Idealize.SL.Sem
open Cert.Data Cert.RefRead

/-- An index of two axes, by its coordinates. -/
theorem eta2 {a b : ℕ} (x : (⟨2, ![a, b]⟩ : Shape).Idx) : x = ix2 (x 0) (x 1) :=
  funext fun i => by fin_cases i <;> rfl
/-- The corner of a plane. -/
theorem corner2 : (![0, 0] : Fin 2 → Nat) = fun _ => 0 := funext fun a => by fin_cases a <;> rfl
/-- The corner of a stack of planes. -/
theorem corner3 : (![0, 0, 0] : Fin 3 → Nat) = fun _ => 0 := funext fun a => by fin_cases a <;> rfl

/-! ## What the body leaves -/

section
variable (x0 : Vec Ideal S16x2432x7168 .i8) (x1 : Vec Ideal S16x2432x56 .i32) (x2 : Vec Ideal S2432x7168 .f32)
  (x3 : Vec Ideal S2432x7168 .i8) (x4 : Vec Ideal S2432x56 .f32) (x5 : Vec Ideal S2432x7168 .bf16)

/-- The codes are loaded whole. -/
theorem load0 : View.ld x0 r0_0 = x0 := View.ld_unit_zero (S := S16x2432x7168) corner3 _ x0
/-- The scales' words are loaded whole. -/
theorem load1 : View.ld x1 r0_1 = x1 := View.ld_unit_zero (S := S16x2432x56) corner3 _ x1
/-- A plane is loaded whole. -/
theorem load2 {e : EltTy} (x : Vec Ideal S2432x7168 e) : View.ld x r0_2 = x := View.ld_unit_zero (S := S2432x7168) corner2 _ x
/-- The first moments' scales are loaded whole. -/
theorem load4 : View.ld x4 r0_3 = x4 := View.ld_unit_zero (S := S2432x56) corner2 _ x4
/-- A plane is stored whole. -/
theorem store2 {e : EltTy} (x : Vec Ideal S2432x7168 e) : View.canon [⟨r0_2, x⟩] = x :=
  View.canon_unit_zero (Val := Elt Ideal) (e := e) (S := S2432x7168) corner2 _ x
/-- A plane of scales is stored whole. -/
theorem store4 (x : Vec Ideal S56x2432 .f32) : View.canon [⟨r0_4, x⟩] = x :=
  View.canon_unit_zero (Val := Elt Ideal) (e := .f32) (S := S56x2432) corner2 _ x

/-- The new first moments. -/
theorem moment_eq : k0_pay18 x0 x1 x2 x3 x4 x5 = k0_pay2 x0 x1 x3 x4 := by
  unfold k0_pay18; rw [load0, load1, load2, load4]
/-- The new second moments. -/
theorem second_eq : k0_pay19 x0 x1 x2 x3 x4 x5 = k0_pay3 x0 x1 x5 := by
  unfold k0_pay19; rw [load0, load1, load2]
/-- The new first moments, corrected. -/
theorem corrected_eq : k0_pay20 x0 x1 x2 x3 x4 x5 = k0_pay4 x0 x1 x3 x4 := by
  unfold k0_pay20; rw [load0, load1, load2, load4]
/-- The new weights' codes are formed as the first moments' are. -/
theorem codes_new (a b d : FVec Ideal S2432x7168 .f32) (z : Ideal .f32) :
    k0_pay14 (k0_pay11 a b d z) (k0_pay12 a b d z) (Scalar.ofBits .f32 0x00800000#32) = k0_pay9 (k0_pay6 a b d z) := rfl
/-- The new weights' scales are formed as the first moments' are. -/
theorem scales_new (a b d : FVec Ideal S2432x7168 .f32) (z : Ideal .f32) :
    k0_pay17 (k0_pay12 a b d z) (Scalar.ofBits .f32 0x00800000#32) = k0_pay16 (k0_pay10 (k0_pay6 a b d z)) := rfl

/-- The new weights. -/
theorem out6 : out0_6 x0 x1 x2 x3 x4 x5 = fun y : S2432x7168.Idx => rNew (Args.whole x0 x1 x2 x3 x4 x5) Args.blocks (y 0) (y 1) := by
  unfold out0_6
  rw [store2, load2, second_eq, corrected_eq]
  funext y
  rw [eta2 y]
  exact weights_apply x0 x1 x2 x3 x4 x5 _ _
/-- The new second moments. -/
theorem out7 : out0_7 x0 x1 x2 x3 x4 x5 = fun y : S2432x7168.Idx => rSec (Args.whole x0 x1 x2 x3 x4 x5) Args.blocks (y 0) (y 1) := by
  unfold out0_7
  rw [store2, second_eq]
  funext y
  rw [eta2 y]
  exact second_apply x0 x1 x2 x3 x4 x5 _ _
/-- The updates. -/
theorem out8 : out0_8 x0 x1 x2 x3 x4 x5 = fun y : S2432x7168.Idx => rUpd (Args.whole x0 x1 x2 x3 x4 x5) Args.blocks (y 0) (y 1) := by
  unfold out0_8
  rw [store2, load2, second_eq, corrected_eq]
  funext y
  rw [eta2 y]
  exact update_apply x0 x1 x2 x3 x4 x5 _ _
/-- The first moments' codes. -/
theorem out9 : out0_9 x0 x1 x2 x3 x4 x5 =
    fun y : S2432x7168.Idx => rCodes Args.blocks (rMom (Args.whole x0 x1 x2 x3 x4 x5) Args.blocks) (y 0) (y 1) := by
  unfold out0_9
  rw [store2, moment_eq]
  funext y
  rw [eta2 y]
  exact codes_apply _ _ (fun r k => moment_apply x0 x1 x2 x3 x4 x5 r k) _ _
/-- The first moments' scales. -/
theorem out10 : out0_10 x0 x1 x2 x3 x4 x5 =
    fun y : S56x2432.Idx => rScales Args.blocks (rMom (Args.whole x0 x1 x2 x3 x4 x5) Args.blocks) (y 0) (y 1) := by
  unfold out0_10
  rw [store4, moment_eq]
  funext y
  rw [eta2 y]
  exact scales_apply _ _ (fun r k => moment_apply x0 x1 x2 x3 x4 x5 r k) _ _
/-- The weights' codes. -/
theorem out11 : out0_11 x0 x1 x2 x3 x4 x5 =
    fun y : S2432x7168.Idx => rCodes Args.blocks (rNew (Args.whole x0 x1 x2 x3 x4 x5) Args.blocks) (y 0) (y 1) := by
  unfold out0_11 k0_pay21
  rw [store2, load2, second_eq, corrected_eq, codes_new]
  funext y
  rw [eta2 y]
  exact codes_apply _ _ (fun r k => weights_apply x0 x1 x2 x3 x4 x5 r k) _ _
/-- The weights' scales. -/
theorem out12 : out0_12 x0 x1 x2 x3 x4 x5 =
    fun y : S56x2432.Idx => rScales Args.blocks (rNew (Args.whole x0 x1 x2 x3 x4 x5) Args.blocks) (y 0) (y 1) := by
  unfold out0_12 k0_pay21
  rw [store4, load2, second_eq, corrected_eq, scales_new]
  funext y
  rw [eta2 y]
  exact scales_apply _ _ (fun r k => weights_apply x0 x1 x2 x3 x4 x5 r k) _ _
end

end Cert.RefRun
-- ==== Proof.RefRun.lean ====
module

public import proofs.«01_k».proof.Proof.RefOut
public import proofs.«01_k».proof.Proof.Gen.ReferenceIdeal.Frame
public import Idealize.ShloMosaic.Lib.Pipeline.ValueKit

/-! The reference's results, whole: its one grid point reads and writes whole arrays. -/

@[expose] public section

set_option maxRecDepth 16384

noncomputable section

namespace Cert.RefRun

open Cert.ReferenceIdeal Cert.ReferenceIdeal.Gen
open Idealize.ShloMosaic Idealize.ShloMosaic.TcCoe
open Idealize.SL Idealize.SL.Sem
open Cert.Data Cert.RefRead

variable (m : (ℓ : Loc nD τ sig) → Buf (Elt Ideal) ℓ) (c : Dev nD)

/-- The arguments' operands. -/
abbrev ops : Operands (Fin 2432) (Fin 7168) (Fin 56) :=
  Args.whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Window 0's one block starts at the corner. -/
theorem index0 : ∀ t : Fin cfg0.N, win0_0.index t = ![0, 0, 0] := (by decide +kernel : ∀ t : Fin grid0.N, _)
/-- Window 1's one block starts at the corner. -/
theorem index1 : ∀ t : Fin cfg0.N, win0_1.index t = ![0, 0, 0] := (by decide +kernel : ∀ t : Fin grid0.N, _)
/-- Window 2's one block starts at the corner. -/
theorem index2 : ∀ t : Fin cfg0.N, win0_2.index t = ![0, 0] := (by decide +kernel : ∀ t : Fin grid0.N, _)
/-- Window 3's one block starts at the corner. -/
theorem index3 : ∀ t : Fin cfg0.N, win0_3.index t = ![0, 0] := (by decide +kernel : ∀ t : Fin grid0.N, _)
/-- Window 4's one block starts at the corner. -/
theorem index4 : ∀ t : Fin cfg0.N, win0_4.index t = ![0, 0] := (by decide +kernel : ∀ t : Fin grid0.N, _)
/-- Window 5's one block starts at the corner. -/
theorem index5 : ∀ t : Fin cfg0.N, win0_5.index t = ![0, 0] := (by decide +kernel : ∀ t : Fin grid0.N, _)
/-- Window 6's one block starts at the corner. -/
theorem index6 : ∀ t : Fin cfg0.N, win0_6.index t = ![0, 0] := (by decide +kernel : ∀ t : Fin grid0.N, _)
/-- Window 7's one block starts at the corner. -/
theorem index7 : ∀ t : Fin cfg0.N, win0_7.index t = ![0, 0] := (by decide +kernel : ∀ t : Fin grid0.N, _)
/-- Window 8's one block starts at the corner. -/
theorem index8 : ∀ t : Fin cfg0.N, win0_8.index t = ![0, 0] := (by decide +kernel : ∀ t : Fin grid0.N, _)
/-- Window 9's one block starts at the corner. -/
theorem index9 : ∀ t : Fin cfg0.N, win0_9.index t = ![0, 0] := (by decide +kernel : ∀ t : Fin grid0.N, _)
/-- Window 10's one block starts at the corner. -/
theorem index10 : ∀ t : Fin cfg0.N, win0_10.index t = ![0, 0] := (by decide +kernel : ∀ t : Fin grid0.N, _)
/-- Window 11's one block starts at the corner. -/
theorem index11 : ∀ t : Fin cfg0.N, win0_11.index t = ![0, 0] := (by decide +kernel : ∀ t : Fin grid0.N, _)
/-- Window 12's one block starts at the corner. -/
theorem index12 : ∀ t : Fin cfg0.N, win0_12.index t = ![0, 0] := (by decide +kernel : ∀ t : Fin grid0.N, _)

/-- The codes are read whole. -/
theorem block0 (t : Fin cfg0.N) : iblk m c 0 t = m ((c : Thread nD τ).loc main_arg0) := by
  funext y
  blk_simp [iblk]
  refine congrArg (m ((c : Thread nD τ).loc main_arg0)) ?_
  blk_ext [index0 t]

/-- The words of the scales are read whole. -/
theorem block1 (t : Fin cfg0.N) : iblk m c 1 t = m ((c : Thread nD τ).loc main_arg1) := by
  funext y
  blk_simp [iblk]
  refine congrArg (m ((c : Thread nD τ).loc main_arg1)) ?_
  blk_ext [index1 t]

/-- The weights are read whole. -/
theorem block2 (t : Fin cfg0.N) : iblk m c 2 t = m ((c : Thread nD τ).loc main_arg2) := by
  funext y
  blk_simp [iblk]
  refine congrArg (m ((c : Thread nD τ).loc main_arg2)) ?_
  blk_ext [index2 t]

/-- The first moments' codes are read whole. -/
theorem block3 (t : Fin cfg0.N) : iblk m c 3 t = m ((c : Thread nD τ).loc main_arg3) := by
  funext y
  blk_simp [iblk]
  refine congrArg (m ((c : Thread nD τ).loc main_arg3)) ?_
  blk_ext [index3 t]

/-- The first moments' scales are read whole. -/
theorem block4 (t : Fin cfg0.N) : iblk m c 4 t = m ((c : Thread nD τ).loc main_arg4) := by
  funext y
  blk_simp [iblk]
  refine congrArg (m ((c : Thread nD τ).loc main_arg4)) ?_
  blk_ext [index4 t]

/-- The second moments are read whole. -/
theorem block5 (t : Fin cfg0.N) : iblk m c 5 t = m ((c : Thread nD τ).loc main_arg5) := by
  funext y
  blk_simp [iblk]
  refine congrArg (m ((c : Thread nD τ).loc main_arg5)) ?_
  blk_ext [index5 t]

/-- The new weights. -/
theorem final6 : (dats m 0 c).arrAt 6 cfg0.N = fun y : S2432x7168.Idx => rNew (ops m c) Args.blocks (y 0) (y 1) := by
  refine (dats m 0 c).arrAt_eq_of_covers 6 _ (by decide +kernel) fun t hf y => ?_
  blk_simp
  rw [after0_6, block0, block1, block2, block3, block4, block5, out6]
  refine congrArg₂ (rNew (ops m c) Args.blocks) (Fin.ext ?_) (Fin.ext ?_) <;> blk_simp [index6 t] <;> omega

/-- The new second moments. -/
theorem final7 : (dats m 0 c).arrAt 7 cfg0.N = fun y : S2432x7168.Idx => rSec (ops m c) Args.blocks (y 0) (y 1) := by
  refine (dats m 0 c).arrAt_eq_of_covers 7 _ (by decide +kernel) fun t hf y => ?_
  blk_simp
  rw [after0_7, block0, block1, block2, block3, block4, block5, out7]
  refine congrArg₂ (rSec (ops m c) Args.blocks) (Fin.ext ?_) (Fin.ext ?_) <;> blk_simp [index7 t] <;> omega

/-- The updates. -/
theorem final8 : (dats m 0 c).arrAt 8 cfg0.N = fun y : S2432x7168.Idx => rUpd (ops m c) Args.blocks (y 0) (y 1) := by
  refine (dats m 0 c).arrAt_eq_of_covers 8 _ (by decide +kernel) fun t hf y => ?_
  blk_simp
  rw [after0_8, block0, block1, block2, block3, block4, block5, out8]
  refine congrArg₂ (rUpd (ops m c) Args.blocks) (Fin.ext ?_) (Fin.ext ?_) <;> blk_simp [index8 t] <;> omega

/-- The first moments' codes. -/
theorem final9 : (dats m 0 c).arrAt 9 cfg0.N = fun y : S2432x7168.Idx => rCodes Args.blocks (rMom (ops m c) Args.blocks) (y 0) (y 1) := by
  refine (dats m 0 c).arrAt_eq_of_covers 9 _ (by decide +kernel) fun t hf y => ?_
  blk_simp
  rw [after0_9, block0, block1, block2, block3, block4, block5, out9]
  refine congrArg₂ (rCodes Args.blocks (rMom (ops m c) Args.blocks)) (Fin.ext ?_) (Fin.ext ?_) <;> blk_simp [index9 t] <;> omega

/-- The first moments' scales. -/
theorem final10 : (dats m 0 c).arrAt 10 cfg0.N = fun y : S56x2432.Idx => rScales Args.blocks (rMom (ops m c) Args.blocks) (y 0) (y 1) := by
  refine (dats m 0 c).arrAt_eq_of_covers 10 _ (by decide +kernel) fun t hf y => ?_
  blk_simp
  rw [after0_10, block0, block1, block2, block3, block4, block5, out10]
  refine congrArg₂ (rScales Args.blocks (rMom (ops m c) Args.blocks)) (Fin.ext ?_) (Fin.ext ?_) <;> blk_simp [index10 t] <;> omega

/-- The weights' codes. -/
theorem final11 : (dats m 0 c).arrAt 11 cfg0.N = fun y : S2432x7168.Idx => rCodes Args.blocks (rNew (ops m c) Args.blocks) (y 0) (y 1) := by
  refine (dats m 0 c).arrAt_eq_of_covers 11 _ (by decide +kernel) fun t hf y => ?_
  blk_simp
  rw [after0_11, block0, block1, block2, block3, block4, block5, out11]
  refine congrArg₂ (rCodes Args.blocks (rNew (ops m c) Args.blocks)) (Fin.ext ?_) (Fin.ext ?_) <;> blk_simp [index11 t] <;> omega

/-- The weights' scales. -/
theorem final12 : (dats m 0 c).arrAt 12 cfg0.N = fun y : S56x2432.Idx => rScales Args.blocks (rNew (ops m c) Args.blocks) (y 0) (y 1) := by
  refine (dats m 0 c).arrAt_eq_of_covers 12 _ (by decide +kernel) fun t hf y => ?_
  blk_simp
  rw [after0_12, block0, block1, block2, block3, block4, block5, out12]
  refine congrArg₂ (rScales Args.blocks (rNew (ops m c) Args.blocks)) (Fin.ext ?_) (Fin.ext ?_) <;> blk_simp [index12 t] <;> omega

end Cert.RefRun
-- ==== Proof.RefEnds.lean ====
module

public import proofs.«01_k».proof.Proof.RefRun

/-! The reference's run: it ends with the plain step's results, and the arguments unchanged. -/

@[expose] public section

noncomputable section

namespace Cert.RefRun

open Cert.ReferenceIdeal Cert.ReferenceIdeal.Gen
open Idealize.ShloMosaic Idealize.ShloMosaic.TcCoe
open Idealize.SL Idealize.SL.Sem
open Cert.Data

variable (m : (ℓ : Loc nD τ sig) → Buf (Elt Ideal) ℓ) (ρ : Dev nD → PrngReg)

/-- The reference runs, and ends with the plain step's results on each device and the arguments unchanged. -/
theorem ends : θ_run (defs (F := Ideal)) (onTc (τ := τ) (main (F := Ideal))) ⟨m, fun _ => 0, ρ⟩ fun r => ∀ c : Dev nD,
      r.2.mem ((c.tc : Thread nD τ).loc main_v0_0) = (fun y : S2432x7168.Idx => rNew (ops m c) Args.blocks (y 0) (y 1))
      ∧ r.2.mem ((c.tc : Thread nD τ).loc main_v0_1) = (fun y : S2432x7168.Idx => rSec (ops m c) Args.blocks (y 0) (y 1))
      ∧ r.2.mem ((c.tc : Thread nD τ).loc main_v0_2) = (fun y : S2432x7168.Idx => rUpd (ops m c) Args.blocks (y 0) (y 1))
      ∧ r.2.mem ((c.tc : Thread nD τ).loc main_v0_3) = (fun y : S2432x7168.Idx => rCodes Args.blocks (rMom (ops m c) Args.blocks) (y 0) (y 1))
      ∧ r.2.mem ((c.tc : Thread nD τ).loc main_v0_4) = (fun y : S56x2432.Idx => rScales Args.blocks (rMom (ops m c) Args.blocks) (y 0) (y 1))
      ∧ r.2.mem ((c.tc : Thread nD τ).loc main_v0_5) = (fun y : S2432x7168.Idx => rCodes Args.blocks (rNew (ops m c) Args.blocks) (y 0) (y 1))
      ∧ r.2.mem ((c.tc : Thread nD τ).loc main_v0_6) = (fun y : S56x2432.Idx => rScales Args.blocks (rNew (ops m c) Args.blocks) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r f c => ⟨((f c).1 6).trans (final6 m c),
      ((f c).1 7).trans (final7 m c),
      ((f c).1 8).trans (final8 m c),
      ((f c).1 9).trans (final9 m c),
      ((f c).1 10).trans (final10 m c),
      ((f c).1 11).trans (final11 m c),
      ((f c).1 12).trans (final12 m c),
      ((f c).1 0).trans (((dats m 0 c).arrAt_in 0 rfl _).trans ((A_eq m c 0).trans (V_main_arg0 m c))),
      ((f c).1 1).trans (((dats m 0 c).arrAt_in 1 rfl _).trans ((A_eq m c 1).trans (V_main_arg1 m c))),
      ((f c).1 2).trans (((dats m 0 c).arrAt_in 2 rfl _).trans ((A_eq m c 2).trans (V_main_arg2 m c))),
      ((f c).1 3).trans (((dats m 0 c).arrAt_in 3 rfl _).trans ((A_eq m c 3).trans (V_main_arg3 m c))),
      ((f c).1 4).trans (((dats m 0 c).arrAt_in 4 rfl _).trans ((A_eq m c 4).trans (V_main_arg4 m c))),
      ((f c).1 5).trans (((dats m 0 c).arrAt_in 5 rfl _).trans ((A_eq m c 5).trans (V_main_arg5 m c)))⟩) (run_main m ρ)

end Cert.RefRun
-- ==== Proof.Range.lean ====
module

public import proofs.«01_k».proof.Proof.Args
public import proofs.«01_k».proof.Proof.Codes
public import proofs.«01_k».proof.Pre_in_range
public import proofs.«01_k».proof.Proof.Gen.Pre_in_range
public import Idealize.ShloMosaic.Lib.ReduceAll

/-! What the precondition says of the arguments: the operands are in range, and the ranks' scales have no low half. -/

@[expose] public section

noncomputable section

namespace Cert.Range

open Cert.Pre_in_range
open Idealize.ShloMosaic
open Cert.Words Cert.Data

/-- A conjunction of two bits that is 1 has both 1. -/
theorem both (x y : IVec S_ 1) (i : S_.Idx) (e : andi x y i = 1#1) : x i = 1#1 ∧ y i = 1#1 :=
  (by decide : ∀ a b : BitVec 1, a &&& b = 1#1 → a = 1#1 ∧ b = 1#1) _ _ e

/-- A scalar has one index. -/
instance : Subsingleton S_.Idx := ⟨fun a b => funext fun i => i.elim0⟩

/-- A float comparison's bit that is 1. -/
theorem of_bit {p : Prop} [Decidable p] (e : BitVec.ofBool (decide p) = 1#1) : p := by
  by_contra h
  rw [decide_eq_false h] at e
  exact absurd e (by decide)

/-- A code of an exponent below the greatest. -/
theorem code_of : ∀ b : BitVec 8, (b.signExtend 32 &&& 127#32).toInt < (124#32 : BitVec 32).toInt → b.toNat % 128 < 124 :=
  by decide +kernel
/-- A momentum code other than a NaN. -/
theorem mcode_of : ∀ b : BitVec 8, (b.signExtend 32 &&& 127#32).toInt < (127#32 : BitVec 32).toInt → b.toNat % 128 ≠ 127 :=
  by decide +kernel
/-- A word whose low half is masked to zero. -/
theorem low_of (s : BitVec 32) (h : s &&& 65535#32 = 0#32) : s.toNat % 2 ^ 16 = 0 := by
  have := congrArg BitVec.toNat h
  rw [BitVec.toNat_and] at this
  exact (Nat.and_two_pow_sub_one_eq_mod s.toNat 16).symm.trans this
/-- A word of magnitude at most `2 ^ 64`. -/
theorem scale_of (s : BitVec 32) (h : (s &&& 2147483647#32).toInt ≤ (1602224128#32 : BitVec 32).toInt) :
    s.toNat % 2 ^ 31 ≤ 191 * 2 ^ 23 := by
  have e : (s &&& 2147483647#32).toNat = s.toNat % 2 ^ 31 := by
    rw [BitVec.toNat_and]
    exact Nat.and_two_pow_sub_one_eq_mod s.toNat 31
  have l : s.toNat % 2 ^ 31 < 2 ^ 31 := Nat.mod_lt _ (by norm_num)
  rw [BitVec.toInt_eq_toNat_of_lt (by rw [e]; omega), e] at h
  have : (1602224128#32 : BitVec 32).toInt = 1602224128 := by decide
  rw [this] at h
  omega

/-- The bound of the magnitudes, as a float. -/
theorem bound : Ideal.ofBits .f32 0x5F800000#32 = ((2 ^ 64 : ℝ) : EReal) :=
  (float_word (E := 191) (by norm_num) (by norm_num)).trans (by norm_num)
/-- The smallest normal, as a bf16 number. -/
theorem smallest : Ideal.ofBits .bf16 0x0080#16 = (tiny : EReal) :=
  (Cert.Codes.high_half 0x00800000#32 (by decide)).trans float_tiny

/-- A magnitude at most `2 ^ 64` is a real number's. -/
theorem within_of (x : EReal) (h : max x (-x) ≤ Ideal.ofBits .f32 0x5F800000#32) : Within (2 ^ 64) x := by
  rw [bound] at h
  have h1 := (le_max_left _ _).trans h
  have h2 := (le_max_right _ _).trans h
  induction x with
  | bot => exact absurd (top_le_iff.mp h2) (EReal.coe_ne_top _)
  | top => exact absurd (top_le_iff.mp h1) (EReal.coe_ne_top _)
  | coe r =>
    refine ⟨r, rfl, abs_le.mpr ⟨?_, by exact_mod_cast h1⟩⟩
    have : -r ≤ 2 ^ 64 := by exact_mod_cast h2
    linarith

/-- A normal number below infinity. -/
theorem second_of (x : EReal) (h : Ideal.ofBits .bf16 0x0080#16 ≤ x) (h' : x < Ideal.ofBits .bf16 0x7F80#16) :
    ∃ v : ℝ, x = (v : EReal) ∧ tiny ≤ v := by
  rw [smallest] at h
  have hb := ne_top_of_lt h'
  induction x with
  | bot => exact absurd h (by simp)
  | top => exact absurd rfl hb
  | coe r => exact ⟨r, rfl, by exact_mod_cast h⟩

section
variable (a0 : Vec Ideal S16x2432x7168 .i8) (a1 : Vec Ideal S16x2432x56 .i32) (a2 : Vec Ideal S2432x7168 .f32)
  (a3 : Vec Ideal S2432x7168 .i8) (a4 : Vec Ideal S2432x56 .f32) (a5 : Vec Ideal S2432x7168 .bf16)

/-- What the precondition says, element by element. -/
theorem elements (e : Cert.Pre_in_range.fn (F := Ideal) a0 a1 a2 a3 a4 a5 = fun _ => 1#1) :
    (∀ i, (a0 i).toNat % 128 < 124) ∧ (∀ i, (a1 i).toNat % 2 ^ 16 = 0) ∧ (∀ i, (a1 i).toNat % 2 ^ 31 ≤ 191 * 2 ^ 23) ∧
    (∀ i, Within (2 ^ 64) (a2 i)) ∧ (∀ i, (a3 i).toNat % 128 ≠ 127) ∧ (∀ i, Within (2 ^ 64) (a4 i)) ∧
    (∀ i, ∃ v : ℝ, a5 i = (v : EReal) ∧ tiny ≤ v) := by
  have j : S_.Idx := fun i => i.elim0
  replace e := congrFun e j
  unfold fn fn_part1 fn_part2 at e
  dsimp only at e
  obtain ⟨e, h7⟩ := both _ _ _ e
  obtain ⟨e, h6⟩ := both _ _ _ e
  obtain ⟨e, h5⟩ := both _ _ _ e
  obtain ⟨e, h4⟩ := both _ _ _ e
  obtain ⟨e, h3⟩ := both _ _ _ e
  obtain ⟨e, h2⟩ := both _ _ _ e
  obtain ⟨h0, h1⟩ := both _ _ _ e
  refine ⟨fun i => ?_, fun i => ?_, fun i => ?_, fun i => ?_, fun i => ?_, fun i => ?_, fun i => ?_⟩
  · exact code_of _ (IntOp.cmpi_slt.1 (Host.reduce_andi_all _ _ _ _ j h0 i))
  · exact low_of _ (IntOp.cmpi_eq.1 (Host.reduce_andi_all _ _ _ _ j h1 i))
  · exact scale_of _ (IntOp.cmpi_sle.1 (Host.reduce_andi_all _ _ _ _ j h2 i))
  · exact within_of _ (of_bit (Host.reduce_andi_all _ _ _ _ j h3 i))
  · exact mcode_of _ (IntOp.cmpi_slt.1 (Host.reduce_andi_all _ _ _ _ j h4 i))
  · exact within_of _ (of_bit (Host.reduce_andi_all _ _ _ _ j h5 i))
  · exact second_of _ (of_bit (Host.reduce_andi_all _ _ _ _ j h6 i)) (of_bit (Host.reduce_andi_all _ _ _ _ j h7 i))

/-- The operands are in range. -/
theorem inRange (e : Cert.Pre_in_range.fn (F := Ideal) a0 a1 a2 a3 a4 a5 = fun _ => 1#1) :
    (Args.whole a0 a1 a2 a3 a4 a5).InRange := by
  obtain ⟨h0, -, h2, h3, h4, h5, h6⟩ := elements a0 a1 a2 a3 a4 a5 e
  exact ⟨fun p r k => Cert.Codes.e5m2_real _ (h0 _), fun p b r => Cert.Codes.scale_real _ (h2 _), fun r k => h3 _,
    fun r k => Cert.Codes.e4m3_real _ (h4 _), fun b r => h5 _, fun r k => h6 _⟩

/-- The ranks' scales have no low half. -/
theorem low (e : Cert.Pre_in_range.fn (F := Ideal) a0 a1 a2 a3 a4 a5 = fun _ => 1#1) (p : Fin 16) (r : Fin 2432) (b : Fin 56) :
    (a1 (ix3 p r b)).toNat % 2 ^ 16 = 0 :=
  (elements a0 a1 a2 a3 a4 a5 e).2.1 _
end

end Cert.Range
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.KernelIdeal.Value
public import proofs.«01_k».proof.Proof.KernelEnds
public import proofs.«01_k».proof.Proof.RefEnds
public import proofs.«01_k».proof.Proof.Range
public import Idealize.ShloMosaic.Adequacy
public import Idealize.ShloMosaic.Init

@[expose] public section

noncomputable section

namespace Cert.Proof

open Idealize.ShloMosaic Idealize.SL.Sem Cert.Kernel Cert.Data

/-- Each constant of the idealized kernel prints, as a float, the word that the kernel holds. -/
theorem preserves : Cert.preserves_Kernel_KernelIdeal :=
  ⟨IdealRules.named_const.statement Cert.KernelIdeal.κ "beta1" .f32 0x3F666666#32 _ rfl,
   IdealRules.named_const.statement Cert.KernelIdeal.κ "g_to_m" .f32 0x3BCCCCCD#32 _ rfl,
   IdealRules.named_const.statement Cert.KernelIdeal.κ "beta2" .f32 0x3F733333#32 _ rfl,
   IdealRules.named_const.statement Cert.KernelIdeal.κ "gg_to_v" .f32 0x394CCCCD#32 _ rfl,
   IdealRules.named_const.statement Cert.KernelIdeal.κ "inv_bc2" .f32 0x3FC78729#32 _ rfl,
   IdealRules.named_const.statement Cert.KernelIdeal.κ "lr_over_bc1" .f32 0x3C3A8418#32 _ rfl,
   IdealRules.named_const.statement Cert.KernelIdeal.κ "eps" .f32 0x322BCC77#32 _ rfl,
   IdealRules.named_const.statement Cert.KernelIdeal.κ "lr_wd" .f32 0x3A83126F#32 _ rfl,
   IdealRules.named_const.statement Cert.KernelIdeal.κ "inv448" .f32 0x3B124925#32 _ rfl⟩

/-- On arguments in range the kernel and the reference end with the same results. -/
theorem algebraic : Cert.algebraic_KernelIdeal_ReferenceIdeal_pre_in_range := by
  intro m g m' g' hpre hargs
  have same : ∀ c, Cert.RefRun.ops m' c = Cert.Whole.ops m c := fun c => by
    obtain ⟨h0, h1, h2, h3, h4, h5⟩ := hargs c
    unfold Cert.RefRun.ops Cert.Whole.ops
    rw [h0, h1, h2, h3, h4, h5]
  have inr : ∀ c, (Cert.Whole.ops m c).InRange := fun c => Cert.Range.inRange _ _ _ _ _ _ (hpre c)
  refine ⟨_, _, _, _, _, _, _, Cert.Whole.ends m g fun c => Cert.Range.low _ _ _ _ _ _ (hpre c),
    (θ_run Cert.ReferenceIdeal.defs _ _).mono (fun r f c => ?_) (Cert.RefRun.ends m' g')⟩
  obtain ⟨h0, h1, h2, h3, h4, h5, h6, kept⟩ := f c
  rw [same c] at h0 h1 h2 h3 h4 h5 h6
  have d := inr c
  exact ⟨h0.trans (funext fun y => (new_eq Args.blocks d _ _).symm),
    h1.trans (funext fun y => (sec_eq Args.blocks d _ _).symm),
    h2.trans (funext fun y => (upd_eq Args.blocks d _ _).symm),
    h3.trans (funext fun y => (codes_eq Args.blocks _ _ (mom_eq Args.blocks d) (mom_within Args.blocks d) _ _).symm),
    h4.trans (funext fun y => (scales_eq Args.blocks _ _ (mom_eq Args.blocks d) (mom_within Args.blocks d) _ _).symm),
    h5.trans (funext fun y => (codes_eq Args.blocks _ _ (new_eq Args.blocks d) (new_within Args.blocks d) _ _).symm),
    h6.trans (funext fun y => (scales_eq Args.blocks _ _ (new_eq Args.blocks d) (new_within Args.blocks d) _ _).symm), kept⟩

theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
